-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x8192x2816 : Shape := ⟨3, ![3, 8192, 2816]⟩
abbrev S3x8192x4096 : Shape := ⟨3, ![3, 8192, 4096]⟩
abbrev S4096 : Shape := ⟨1, ![4096]⟩
abbrev S2816x4096 : Shape := ⟨2, ![2816, 4096]⟩
abbrev S_ : Shape := ⟨0, ![]⟩
abbrev S2816 : Shape := ⟨1, ![2816]⟩

class Facts : Prop where
  bitsLt_bf16_f32 : FTy.bits .bf16 < FTy.bits .f32
  reducesTo_S3x8192x2816_S2816_d0_1 : S3x8192x2816.ReducesTo [0, 1] S2816
  h_S_ : 0 < S_.numel
  bcast_S_S2816 : S_.BroadcastsInDim S2816 (![] : Fin 0 → Fin S2816.rank)

variable [Facts]

def fn {F : FTy → Type} [FloatOps F] (main_arg0 : FVec F S3x8192x2816 .bf16) (main_arg1 : FVec F S3x8192x4096 .fp8e5m2) (main_arg2 : FVec F S4096 .f32) (main_arg3 : FVec F S2816x4096 .f32) : IVec S2816 1 :=
  let main_v0 : FVec F S3x8192x2816 .f32 := (extf .f32 · bitsLt_bf16_f32) main_arg0
  let main_v1 : FVec F S3x8192x2816 .f32 := Host.absf main_v0
  let main_cst : FVec F S_ .f32 := constant S_ .f32 0xFF800000#32
  let main_v2 : FVec F S2816 .f32 := (fun x v => Host.reduce FloatOps.maximumf x v reducesTo_S3x8192x2816_S2816_d0_1 h_S_) main_v1 main_cst
  let main_cst_0 : FVec F S_ .f32 := constant S_ .f32 0x3B124925#32
  let main_v3 : FVec F S2816 .f32 := broadcastInDim S2816 ![] bcast_S_S2816 main_cst_0
  let main_v4 : FVec F S2816 .f32 := mulf main_v2 main_v3
  let main_cst_1 : FVec F S_ .f32 := constant S_ .f32 0x00000000#32
  let main_v5 : FVec F S2816 .f32 := broadcastInDim S2816 ![] bcast_S_S2816 main_cst_1
  let main_v6 : IVec S2816 1 := cmpf .oeq main_v4 main_v5
  let main_cst_2 : FVec F S_ .f32 := constant S_ .f32 0x00800000#32
  let main_v7 : FVec F S2816 .f32 := broadcastInDim S2816 ![] bcast_S_S2816 main_cst_2
  let main_v8 : IVec S2816 1 := cmpf .oge main_v4 main_v7
  let main_cst_3 : FVec F S_ .f32 := constant S_ .f32 0x7E800000#32
  let main_v9 : FVec F S2816 .f32 := broadcastInDim S2816 ![] bcast_S_S2816 main_cst_3
  let main_v10 : IVec S2816 1 := cmpf .olt main_v4 main_v9
  let main_v11 : IVec S2816 1 := andi main_v8 main_v10
  let main_v12 : IVec S2816 1 := ori main_v6 main_v11
  main_v12
-- ==== Kernel.lean ====
abbrev S3x8192x2816 : Shape := ⟨3, ![3, 8192, 2816]⟩
abbrev S3x8192x4096 : Shape := ⟨3, ![3, 8192, 4096]⟩
abbrev S4096 : Shape := ⟨1, ![4096]⟩
abbrev S2816x4096 : Shape := ⟨2, ![2816, 4096]⟩
abbrev S24576x2816 : Shape := ⟨2, ![24576, 2816]⟩
abbrev S24576x4096 : Shape := ⟨2, ![24576, 4096]⟩
abbrev S1x2816 : Shape := ⟨2, ![1, 2816]⟩
abbrev S1024x2816 : Shape := ⟨2, ![1024, 2816]⟩
abbrev S16x2816 : Shape := ⟨2, ![16, 2816]⟩
abbrev S64x16x2816 : Shape := ⟨3, ![64, 16, 2816]⟩
abbrev S2816 : Shape := ⟨1, ![2816]⟩
abbrev S2816x24576 : Shape := ⟨2, ![2816, 24576]⟩
abbrev S512x2816 : Shape := ⟨2, ![512, 2816]⟩
abbrev S2816x512 : Shape := ⟨2, ![2816, 512]⟩
abbrev S2816x1 : Shape := ⟨2, ![2816, 1]⟩
abbrev S1x4096 : Shape := ⟨2, ![1, 4096]⟩
abbrev S1408x4096 : Shape := ⟨2, ![1408, 4096]⟩
abbrev S4096x1024 : Shape := ⟨2, ![4096, 1024]⟩
abbrev S1408x1 : Shape := ⟨2, ![1408, 1]⟩
abbrev S1x1024 : Shape := ⟨2, ![1, 1024]⟩
abbrev S1408x1024 : Shape := ⟨2, ![1408, 1024]⟩

abbrev nBuf : Space → Nat
  | .hbm => 15
  | .vmem => 25
  | .smem => 0
  | _ => 0

abbrev bufTy : (tb : Table) → Fin (tcTables nBuf tb) → BufTy
  | .hbm, ⟨0, _⟩ => ⟨S3x8192x2816, .bf16⟩
  | .hbm, ⟨1, _⟩ => ⟨S3x8192x4096, .fp8e5m2⟩
  | .hbm, ⟨2, _⟩ => ⟨S4096, .f32⟩
  | .hbm, ⟨3, _⟩ => ⟨S2816x4096, .f32⟩
  | .hbm, ⟨4, _⟩ => ⟨S24576x2816, .bf16⟩
  | .hbm, ⟨5, _⟩ => ⟨S24576x4096, .fp8e5m2⟩
  | .hbm, ⟨6, _⟩ => ⟨S1x2816, .f32⟩
  | .hbm, ⟨7, _⟩ => ⟨S1x2816, .bf16⟩
  | .hbm, ⟨8, _⟩ => ⟨S24576x2816, .fp8e4m3⟩
  | .hbm, ⟨9, _⟩ => ⟨S2816x24576, .fp8e4m3⟩
  | .hbm, ⟨10, _⟩ => ⟨S2816x1, .f32⟩
  | .hbm, ⟨11, _⟩ => ⟨S1x4096, .f32⟩
  | .hbm, ⟨12, _⟩ => ⟨S2816x4096, .f32⟩
  | .hbm, ⟨13, _⟩ => ⟨S3x8192x2816, .fp8e4m3⟩
  | .hbm, ⟨14, _⟩ => ⟨S2816, .f32⟩
  | .local _ .vmem, ⟨0, _⟩ => ⟨S1024x2816, .bf16⟩
  | .local _ .vmem, ⟨1, _⟩ => ⟨S1024x2816, .bf16⟩
  | .local _ .vmem, ⟨2, _⟩ => ⟨S1x2816, .f32⟩
  | .local _ .vmem, ⟨3, _⟩ => ⟨S1x2816, .bf16⟩
  | .local _ .vmem, ⟨4, _⟩ => ⟨S16x2816, .bf16⟩
  | .local _ .vmem, ⟨5, _⟩ => ⟨S512x2816, .bf16⟩
  | .local _ .vmem, ⟨6, _⟩ => ⟨S512x2816, .bf16⟩
  | .local _ .vmem, ⟨7, _⟩ => ⟨S1x2816, .bf16⟩
  | .local _ .vmem, ⟨8, _⟩ => ⟨S512x2816, .fp8e4m3⟩
  | .local _ .vmem, ⟨9, _⟩ => ⟨S512x2816, .fp8e4m3⟩
  | .local _ .vmem, ⟨10, _⟩ => ⟨S2816x512, .fp8e4m3⟩
  | .local _ .vmem, ⟨11, _⟩ => ⟨S2816x512, .fp8e4m3⟩
  | .local _ .vmem, ⟨12, _⟩ => ⟨S1408x4096, .fp8e4m3⟩
  | .local _ .vmem, ⟨13, _⟩ => ⟨S1408x4096, .fp8e4m3⟩
  | .local _ .vmem, ⟨14, _⟩ => ⟨S4096x1024, .fp8e5m2⟩
  | .local _ .vmem, ⟨15, _⟩ => ⟨S4096x1024, .fp8e5m2⟩
  | .local _ .vmem, ⟨16, _⟩ => ⟨S1408x1, .f32⟩
  | .local _ .vmem, ⟨17, _⟩ => ⟨S1408x1, .f32⟩
  | .local _ .vmem, ⟨18, _⟩ => ⟨S1x1024, .f32⟩
  | .local _ .vmem, ⟨19, _⟩ => ⟨S1x1024, .f32⟩
  | .local _ .vmem, ⟨20, _⟩ => ⟨S1408x1024, .f32⟩
  | .local _ .vmem, ⟨21, _⟩ => ⟨S1408x1024, .f32⟩
  | .local _ .vmem, ⟨22, _⟩ => ⟨S1408x1024, .f32⟩
  | .local _ .vmem, ⟨23, _⟩ => ⟨S1408x1024, .f32⟩
  | .local _ .vmem, ⟨24, _⟩ => ⟨S1408x1024, .f32⟩
  | _, _ => ⟨S3x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v13 : BitVec 1 := Scalar.cmpi .eq arg0 c23_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2816 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2816x512 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![2, 4, 6], ![false, false, false]⟩

def k2_cond2 (i : grid2.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1408x4096 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1408x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1408x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]
-- ==== ReferenceIdeal.lean ====
abbrev S3x8192x2816 : Shape := ⟨3, ![3, 8192, 2816]⟩
abbrev S3x8192x4096 : Shape := ⟨3, ![3, 8192, 4096]⟩
abbrev S4096 : Shape := ⟨1, ![4096]⟩
abbrev S2816x4096 : Shape := ⟨2, ![2816, 4096]⟩
abbrev S24576x2816 : Shape := ⟨2, ![24576, 2816]⟩
abbrev S24576x4096 : Shape := ⟨2, ![24576, 4096]⟩
abbrev S1x4096 : Shape := ⟨2, ![1, 4096]⟩
abbrev S1x2816 : Shape := ⟨2, ![1, 2816]⟩
abbrev S2816 : Shape := ⟨1, ![2816]⟩
abbrev S2816x1 : Shape := ⟨2, ![2816, 1]⟩

abbrev nBuf : Space → Nat
  | .hbm => 12
  | .vmem => 7
  | .smem => 0
  | _ => 0

abbrev bufTy : (tb : Table) → Fin (tcTables nBuf tb) → BufTy
  | .hbm, ⟨0, _⟩ => ⟨S3x8192x2816, .bf16⟩
  | .hbm, ⟨1, _⟩ => ⟨S3x8192x4096, .fp8e5m2⟩
  | .hbm, ⟨2, _⟩ => ⟨S4096, .f32⟩
  | .hbm, ⟨3, _⟩ => ⟨S2816x4096, .f32⟩
  | .hbm, ⟨4, _⟩ => ⟨S24576x2816, .bf16⟩
  | .hbm, ⟨5, _⟩ => ⟨S24576x4096, .fp8e5m2⟩
  | .hbm, ⟨6, _⟩ => ⟨S1x4096, .f32⟩
  | .hbm, ⟨7, _⟩ => ⟨S2816x4096, .f32⟩
  | .hbm, ⟨8, _⟩ => ⟨S24576x2816, .fp8e4m3⟩
  | .hbm, ⟨9, _⟩ => ⟨S1x2816, .f32⟩
  | .hbm, ⟨10, _⟩ => ⟨S3x8192x2816, .fp8e4m3⟩
  | .hbm, ⟨11, _⟩ => ⟨S2816, .f32⟩
  | .local _ .vmem, ⟨0, _⟩ => ⟨S24576x2816, .bf16⟩
  | .local _ .vmem, ⟨1, _⟩ => ⟨S24576x4096, .fp8e5m2⟩
  | .local _ .vmem, ⟨2, _⟩ => ⟨S1x4096, .f32⟩
  | .local _ .vmem, ⟨3, _⟩ => ⟨S2816x4096, .f32⟩
  | .local _ .vmem, ⟨4, _⟩ => ⟨S2816x4096, .f32⟩
  | .local _ .vmem, ⟨5, _⟩ => ⟨S24576x2816, .fp8e4m3⟩
  | .local _ .vmem, ⟨6, _⟩ => ⟨S1x2816, .f32⟩
  | _, _ => ⟨S3x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24576x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2816x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x2816 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Region0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_amax` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 24 = 23 :=
  (fun t => by
    have ht : t.val < 24 := Nat.lt_of_lt_of_eq t.isLt N_0
    have e0 : (grid0.coords t 0).val = t.val / 1 % 24 := Pipeline.Grid.coords_val t 0 (by decide) rfl
    simp only [cond0_1, k0_cond2, e0]
    word_cmp
   : ∀ t : Fin grid0.N, cond0_1 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x2816 .f32 := (Memref.whole cc0_stg1_0 : Memref sig .tc .vmem S1x2816 .f32).view
/-- One staging buffer of output window 2, through which its contents are stated (`View.read_writes_of_cover`: the
    choice does not matter). -/
abbrev VO0_2 : View sig .tc .vmem S1x2816 .bf16 := (Memref.whole cc0_stg2_0 : Memref sig .tc .vmem S1x2816 .bf16).view
/-- Each window's current staging memref at point `t`, spelled as the pipeline passes it (`bodyAt0`), and its wholeness. -/
abbrev ms0_0 (t : Fin cfg0.N) : Memref sig .tc .vmem S1024x2816 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2816 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2816 .bf16 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x2816 .bf16 := Memref.whole cc0_scratch0
/-- The scratch `arg4` the kernel carries between points, as a view: what it holds is stated through it. -/
abbrev VS0_0 : View sig .tc .vmem S16x2816 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) :
    Σ' (L1 : List (View.Piece (Elt F) S1x2816 .f32)), Σ' (L2 : List (View.Piece (Elt F) S1x2816 .bf16)), { LS0 : List (View.Piece (Elt F) S16x2816 .bf16) //
      ∀ (xi1 : Vec F S1x2816 .f32) (xi2 : Vec F S1x2816 .bf16) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨[], [], ?_, fun xi1 xi2 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) : Vec F S1x2816 .f32 :=
  VO0_1.read (Elt F) (VO0_1.writes (Elt F) VO0_1.junk (kernelRun0_A c i arg1 harg1 arg2 harg2 arg3 harg3 arg4 harg4 hc0 hc1 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) : Vec F S1x2816 .bf16 :=
  VO0_2.read (Elt F) (VO0_2.writes (Elt F) VO0_2.junk (kernelRun0_A c i arg1 harg1 arg2 harg2 arg3 harg3 arg4 harg4 hc0 hc1 x0).2.1)

/-- Case A's pieces for scratch `arg4`, which the kernel carries between points, cover it: 2 pieces of `S16x2816` tiling it (Lib/Ring.lean `Piece.tiledL`). -/
theorem scover0_A_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) (y : S16x2816.Idx) :
    ∃ pc ∈ (kernelRun0_A c i arg1 harg1 arg2 harg2 arg3 harg3 arg4 harg4 hc0 hc1 x0).2.2.1, y ∈ pc.1.set :=
  View.cover_of_tiledL (kernelRun0_A c i arg1 harg1 arg2 harg2 arg3 harg3 arg4 harg4 hc0 hc1 x0).2.2.1 S16x2816.size (by sl_kernel_rfl) y

/-- What case A leaves in scratch `arg4`: its pieces read back over junk. -/
def sout0_A_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) : Vec F S16x2816 .bf16 :=
  VS0_0.read (Elt F) (VS0_0.writes (Elt F) VS0_0.junk (kernelRun0_A c i arg1 harg1 arg2 harg2 arg3 harg3 arg4 harg4 hc0 hc1 x0).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 22: 22 of 24), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) :
    Σ' (L1 : List (View.Piece (Elt F) S1x2816 .f32)), Σ' (L2 : List (View.Piece (Elt F) S1x2816 .bf16)), { LS0 : List (View.Piece (Elt F) S16x2816 .bf16) //
      ∀ (xi1 : Vec F S1x2816 .f32) (xi2 : Vec F S1x2816 .bf16) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨[], [], ?_, fun xi1 xi2 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) : Vec F S1x2816 .f32 :=
  VO0_1.read (Elt F) (VO0_1.writes (Elt F) VO0_1.junk (kernelRun0_B c i arg1 harg1 arg2 harg2 arg3 harg3 arg4 harg4 hc0 hc1 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) : Vec F S1x2816 .bf16 :=
  VO0_2.read (Elt F) (VO0_2.writes (Elt F) VO0_2.junk (kernelRun0_B c i arg1 harg1 arg2 harg2 arg3 harg3 arg4 harg4 hc0 hc1 x0 xs0).2.1)

/-- Case B's pieces for scratch `arg4`, which the kernel carries between points, cover it: 1 piece of `S16x2816` tiling it (Lib/Ring.lean `Piece.tiledL`). -/
theorem scover0_B_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) (y : S16x2816.Idx) :
    ∃ pc ∈ (kernelRun0_B c i arg1 harg1 arg2 harg2 arg3 harg3 arg4 harg4 hc0 hc1 x0 xs0).2.2.1, y ∈ pc.1.set :=
  View.cover_of_tiledL (kernelRun0_B c i arg1 harg1 arg2 harg2 arg3 harg3 arg4 harg4 hc0 hc1 x0 xs0).2.2.1 S16x2816.size (by sl_kernel_rfl) y

/-- What case B leaves in scratch `arg4`: its pieces read back over junk. -/
def sout0_B_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) : Vec F S16x2816 .bf16 :=
  VS0_0.read (Elt F) (VS0_0.writes (Elt F) VS0_0.junk (kernelRun0_B c i arg1 harg1 arg2 harg2 arg3 harg3 arg4 harg4 hc0 hc1 x0 xs0).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) :
    Σ' (L1 : List (View.Piece (Elt F) S1x2816 .f32)), Σ' (L2 : List (View.Piece (Elt F) S1x2816 .bf16)), { LS0 : List (View.Piece (Elt F) S16x2816 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨?_, ?_, ?_, fun E K => ?run⟩
  case run =>
    simp only [cc0_amax_eq_skeleton]; unfold cc0_amax_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

/-- Case C's pieces for output 1 tile its block (1 store of `S1x2816`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) (y : S1x2816.Idx) :
    ∃ pc ∈ (kernelRun0_C c i arg1 harg1 arg2 harg2 arg3 harg3 arg4 harg4 hc0 hc1 x0 xs0).1, y ∈ pc.1.set :=
  View.cover_of_tiledL (kernelRun0_C c i arg1 harg1 arg2 harg2 arg3 harg3 arg4 harg4 hc0 hc1 x0 xs0).1 S1x2816.size (by sl_kernel_rfl) y

/-- What case C leaves in output 1's staging buffer: its pieces read back over junk. -/
def out0_C_1 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) : Vec F S1x2816 .f32 :=
  VO0_1.read (Elt F) (VO0_1.writes (Elt F) VO0_1.junk (kernelRun0_C c i arg1 harg1 arg2 harg2 arg3 harg3 arg4 harg4 hc0 hc1 x0 xs0).1)

/-- Case C's pieces for output 2 tile its block (1 store of `S1x2816`, checked by the kernel's evaluation: Lib/Ring.lean `Piece.tiledL`, linear in the pieces, through a loop's `@[irreducible]` trip theorem too), so they cover it. -/
theorem cover0_C_2 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) (y : S1x2816.Idx) :
    ∃ pc ∈ (kernelRun0_C c i arg1 harg1 arg2 harg2 arg3 harg3 arg4 harg4 hc0 hc1 x0 xs0).2.1, y ∈ pc.1.set :=
  View.cover_of_tiledL (kernelRun0_C c i arg1 harg1 arg2 harg2 arg3 harg3 arg4 harg4 hc0 hc1 x0 xs0).2.1 S1x2816.size (by sl_kernel_rfl) y

/-- What case C leaves in output 2's staging buffer: its pieces read back over junk. -/
def out0_C_2 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) : Vec F S1x2816 .bf16 :=
  VO0_2.read (Elt F) (VO0_2.writes (Elt F) VO0_2.junk (kernelRun0_C c i arg1 harg1 arg2 harg2 arg3 harg3 arg4 harg4 hc0 hc1 x0 xs0).2.1)

/-- Case C's pieces for scratch `arg4`, which the kernel carries between points, cover it: 1 piece of `S16x2816` tiling it (Lib/Ring.lean `Piece.tiledL`). -/
theorem scover0_C_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) (y : S16x2816.Idx) :
    ∃ pc ∈ (kernelRun0_C c i arg1 harg1 arg2 harg2 arg3 harg3 arg4 harg4 hc0 hc1 x0 xs0).2.2.1, y ∈ pc.1.set :=
  View.cover_of_tiledL (kernelRun0_C c i arg1 harg1 arg2 harg2 arg3 harg3 arg4 harg4 hc0 hc1 x0 xs0).2.2.1 S16x2816.size (by sl_kernel_rfl) y

/-- What case C leaves in scratch `arg4`: its pieces read back over junk. -/
def sout0_C_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) : Vec F S16x2816 .bf16 :=
  VS0_0.read (Elt F) (VS0_0.writes (Elt F) VS0_0.junk (kernelRun0_C c i arg1 harg1 arg2 harg2 arg3 harg3 arg4 harg4 hc0 hc1 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2816 .f32 × Vec F S1x2816 .bf16 × Vec F S16x2816 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 24 = 0 then
      if h1 : (n + 1) % 24 = 23 then
        False.elim (by have hN : n + 1 < 24 := lt_of_lt_of_eq hn (show cfg0.N = 24 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 24 = 23 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

/-- `outsAt0` at a point of case A: that case's contents. -/
theorem outsAt0_A (c : Dev nD) (t : Fin cfg0.N) (h0 : t.val % 24 = 0) (h1 : ¬t.val % 24 = 23) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 24 = 0) (h1 : ¬t.val % 24 = 23) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 24 = 0) (h1 : t.val % 24 = 23) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS_r0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) ∗ (∃ r, prngReg c r))

theorem PhiS_zero_r0 (c : Dev nD) (n : ℕ) (h : n ≤ cfg0.N) (hz : n = 0) : PhiS_r0 V c n h = Pipeline.ΦA spec0 c := by
  subst hz; rfl

/-- After point `n` (before point `n + 1`): the carried scratch at that point's contents. -/
theorem PhiS_succ_r0 (c : Dev nD) (n : ℕ) (hn : n < cfg0.N) :
    PhiS_r0 V c (n + 1) hn = iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) ∗ (∃ r, prngReg c r)) := rfl

/-- Before a point that is not the first: the carried scratch at what the point before left. -/
theorem PhiS_pos_r0 (c : Dev nD) (n : ℕ) (h : n ≤ cfg0.N) (hz : n ≠ 0) :
    PhiS_r0 V c n h = iprop(iprop(owns (c : Thread nD τ) scM0_0 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS_r0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS_r0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc_r0 (c : Dev nD) (t : Fin cfg0.N) :
    (dat0 V c).Φ t.castSucc = PhiS_r0 V c t.val (Nat.le_of_lt t.isLt) := by
  dsimp only [dat0]; exact Pipeline.Dat.Φ_castSucc (PhiS_r0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos_r0`; at anything at the first point, `PhiS_zero_r0`), the other scratch buffers and the generator register at some state, and takes the carried scratch back at this point's contents (`PhiS_succ_r0`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS_r0 V c (t.val + 1) t.isLt from rfl, PhiS_succ_r0]
  have hN : t.val < 24 := lt_of_lt_of_eq t.isLt (show cfg0.N = 24 from N_0)
  by_cases h0 : t.val % 24 = 0
  · by_cases h1 : t.val % 24 = 23
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc_r0 V c t, PhiS_zero_r0 V c _ _ hz, PhiA0_eq]
        rw [outsAt0_A V c t h0 h1]
        unfold sout0_A_0; (try dsimp only)
        iintro ⟨⟨⟨HS0, HR1, HR2, HR3, HR4, HR5, HR6, HR7, HR8, HR9, HR10, HR11, HR12, HR13, HR14, HR15, HR16, HR17, HR18, HR19, HR20⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t)).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR1 HR2 HR3 HR4 HR5 HR6 HR7 HR8 HR9 HR10 HR11 HR12 HR13 HR14 HR15 HR16 HR17 HR18 HR19 HR20 Hg]
        · isplitl [HS0 HR1 HR2 HR3 HR4 HR5 HR6 HR7 HR8 HR9 HR10 HR11 HR12 HR13 HR14 HR15 HR16 HR17 HR18 HR19 HR20]
          · isplitl [HS0]
            · unfold owns; iexists _; isplitr
              swap; · iexact HS0
              ipureintro; exact View.read_writes_of_cover _ _ _ _ _ (scover0_A_0 c _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            iexact HR20
          iexact Hg
        isplitl [Ho]; · iexact Ho
        isplitl [H0]; · iexact H0
        isplitl [H1]; · iexists _; iexact H1
        iexists _; iexact H2
      · exfalso; have hN : t.val < 24 := lt_of_lt_of_eq t.isLt (show cfg0.N = 24 from N_0); omega
  · by_cases h1 : t.val % 24 = 23
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 24 := lt_of_lt_of_eq t.isLt (show cfg0.N = 24 from N_0); omega
      · rw [PhiS_castSucc_r0 V c t, PhiS_pos_r0 V c _ _ hz]
        rw [outsAt0_C V c t h0 h1]
        unfold out0_C_1 out0_C_2 sout0_C_0; (try dsimp only)
        iintro ⟨⟨⟨HS0, HR1, HR2, HR3, HR4, HR5, HR6, HR7, HR8, HR9, HR10, HR11, HR12, HR13, HR14, HR15, HR16, HR17, HR18, HR19, HR20⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) _).2.2.2 Set.univ _)
        isplitl [H0]; · iexact H0
        isplitl [H1]; · iexists _; iexact H1
        isplitl [H2]; · iexists _; iexact H2
        isplitl [HS0]; · iexact HS0
        iintro ⟨H0, ⟨%e1, H1⟩, ⟨%e2, H2⟩, ⟨%es0, HS0⟩⟩
        isplitl [HS0 HR1 HR2 HR3 HR4 HR5 HR6 HR7 HR8 HR9 HR10 HR11 HR12 HR13 HR14 HR15 HR16 HR17 HR18 HR19 HR20 Hg]
        · isplitl [HS0 HR1 HR2 HR3 HR4 HR5 HR6 HR7 HR8 HR9 HR10 HR11 HR12 HR13 HR14 HR15 HR16 HR17 HR18 HR19 HR20]
          · isplitl [HS0]
            · unfold owns; iexists _; isplitr
              swap; · iexact HS0
              ipureintro; exact View.read_writes_of_cover _ _ _ _ _ (scover0_C_0 c _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            iexact HR20
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _)
        unfold owns; iexists _; isplitr
        swap; · iexact H2
        ipureintro; exact View.read_writes_of_cover _ _ _ _ _ (cover0_C_2 c _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 24 := lt_of_lt_of_eq t.isLt (show cfg0.N = 24 from N_0); omega
      · rw [PhiS_castSucc_r0 V c t, PhiS_pos_r0 V c _ _ hz]
        rw [outsAt0_B V c t h0 h1]
        unfold sout0_B_0; (try dsimp only)
        iintro ⟨⟨⟨HS0, HR1, HR2, HR3, HR4, HR5, HR6, HR7, HR8, HR9, HR10, HR11, HR12, HR13, HR14, HR15, HR16, HR17, HR18, HR19, HR20⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) _).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR1 HR2 HR3 HR4 HR5 HR6 HR7 HR8 HR9 HR10 HR11 HR12 HR13 HR14 HR15 HR16 HR17 HR18 HR19 HR20 Hg]
        · isplitl [HS0 HR1 HR2 HR3 HR4 HR5 HR6 HR7 HR8 HR9 HR10 HR11 HR12 HR13 HR14 HR15 HR16 HR17 HR18 HR19 HR20]
          · isplitl [HS0]
            · unfold owns; iexists _; isplitr
              swap; · iexact HS0
              ipureintro; exact View.read_writes_of_cover _ _ _ _ _ (scover0_B_0 c _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            iexact HR20
          iexact Hg
        isplitl [Ho]; · iexact Ho
        isplitl [H0]; · iexact H0
        isplitl [H1]; · iexists _; iexact H1
        iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin_r0 (c : Dev nD) : Pipeline.ΦA spec0 c ⊢ (dat0 V c).Φ 0 := by
  rw [show (dat0 V c).Φ 0 = PhiS_r0 V c 0 (Nat.zero_le _) from rfl, PhiS_zero_r0 V c 0 _ rfl]
  try exact Idealize.SL.BI.Entails.refl _

/-- After any point but the first the invariant gives `ΦA` back: the carried scratch's named contents are forgotten. -/
theorem Phi_out_r0 (c : Dev nD) (t : Fin (cfg0.N + 1)) (ht : t.val ≠ 0) : (dat0 V c).Φ t ⊢ Pipeline.ΦA spec0 c := by
  rw [show (dat0 V c).Φ t = PhiS_r0 V c t.val (Nat.le_of_lt_succ t.isLt) from rfl, PhiS_pos_r0 V c _ _ ht, PhiA0_eq]
  iintro ⟨⟨HS0, HR1, HR2, HR3, HR4, HR5, HR6, HR7, HR8, HR9, HR10, HR11, HR12, HR13, HR14, HR15, HR16, HR17, HR18, HR19, HR20⟩, Hg⟩
  isplitl [HS0 HR1 HR2 HR3 HR4 HR5 HR6 HR7 HR8 HR9 HR10 HR11 HR12 HR13 HR14 HR15 HR16 HR17 HR18 HR19 HR20]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    iexact HR20
  iexact Hg

/-- The same after the last point. -/
theorem hout_r0 (c : Dev nD) : (dat0 V c).Φ (Fin.last cfg0.N) ⊢ Pipeline.ΦA spec0 c :=
  Phi_out_r0 V c _ (by rw [Fin.val_last]; have : cfg0.N = 24 := N_0; omega)

end Regions

end Cert.Kernel.Gen

end
-- ==== Proof.Kernel.Region1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_quant` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2816 := Rect.unit (s := S512x2816) ![0, 0] S512x2816.size inb_S512x2816_S512x2816_0_0
abbrev r1_1 : Rect S1x2816 := Rect.unit (s := S1x2816) ![0, 0] S1x2816.size inb_S1x2816_S1x2816_0_0
abbrev r1_2 : Rect S2816x512 := Rect.unit (s := S2816x512) ![0, 0] S2816x512.size inb_S2816x512_S2816x512_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S512x2816 .bf16) (x1 : Vec F S1x2816 .bf16) : Vec F S512x2816 .fp8e4m3 :=
  View.canon [⟨r1_0, k1_pay1 (View.ld x0 r1_0) (View.ld x1 r1_1)⟩]

/-- Its stores tile the buffer (checked by evaluation), so they cover it. -/
theorem cover1_2 (p0 : Vec F S512x2816 .fp8e4m3) (y : S512x2816.Idx) :
    ∃ pc ∈ ([⟨r1_0, p0⟩] : List (View.Piece (Elt F) S512x2816 .fp8e4m3)), y ∈ pc.1.set :=
  View.cover_of_tiled [⟨r1_0, p0⟩] S512x2816.size (by rfl) y

/-- Window 3's staging buffer after the body, from the input windows' blocks: its 1 store as pieces, LAST
    FIRST (Lib/Pipeline/FrameBody.lean `View.canon`; the payloads are the skeleton's). -/
def out1_3 (x0 : Vec F S512x2816 .bf16) (x1 : Vec F S1x2816 .bf16) : Vec F S2816x512 .fp8e4m3 :=
  View.canon [⟨r1_2, k1_pay2 (View.ld x0 r1_0) (View.ld x1 r1_1)⟩]

/-- Its stores tile the buffer (checked by evaluation), so they cover it. -/
theorem cover1_3 (p0 : Vec F S2816x512 .fp8e4m3) (y : S2816x512.Idx) :
    ∃ pc ∈ ([⟨r1_2, p0⟩] : List (View.Piece (Elt F) S2816x512 .fp8e4m3)), y ∈ pc.1.set :=
  View.cover_of_tiled [⟨r1_2, p0⟩] S2816x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S512x2816 .bf16) (harg1 : arg1.IsWhole) (arg2 : Memref sig .tc .vmem S1x2816 .bf16) (harg2 : arg2.IsWhole) (arg3 : Memref sig .tc .vmem S512x2816 .fp8e4m3) (harg3 : arg3.IsWhole) (arg4 : Memref sig .tc .vmem S2816x512 .fp8e4m3) (harg4 : arg4.IsWhole)
    (x0 : Vec F S512x2816 .bf16) (x1 : Vec F S1x2816 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1_quant i arg1 harg1 arg2 harg2 arg3 harg3 arg4 harg4) K := by
  simp only [cc1_quant_eq_skeleton]; unfold cc1_quant_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Kernel.Region2.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_wgrad` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 2).val) 0#32)) 0#32) = 1#1
/-- It holds at the points ≡ 0 (mod 6) — by arithmetic of the point. -/
theorem hcond2_0 : ∀ t : Fin cfg2.N, cond2_0 (grid2.coords t) ↔ t.val % 6 = 0 :=
  (fun t => by
    have ht : t.val < 48 := Nat.lt_of_lt_of_eq t.isLt N_2
    have e0 : (grid2.coords t 0).val = t.val / 24 % 2 := Pipeline.Grid.coords_val t 0 (by decide) rfl
    have e1 : (grid2.coords t 1).val = t.val / 6 % 4 := Pipeline.Grid.coords_val t 1 (by decide) rfl
    have e2 : (grid2.coords t 2).val = t.val / 1 % 6 := Pipeline.Grid.coords_val t 2 (by decide) rfl
    simp only [cond2_0, e0, e1, e2]
    word_cmp
   : ∀ t : Fin grid2.N, cond2_0 (grid2.coords t) ↔ t.val % 6 = 0)

/-- The condition of the body's `scf.if` 1 (`k2_h2`), from the grid coordinates (the skeleton's scalar
    chain substituted). -/
abbrev cond2_1 (i : grid2.Coords) : Prop := k2_cond2 i = 1#1
/-- It holds at the points ≡ 5 (mod 6) — by arithmetic of the point. -/
theorem hcond2_1 : ∀ t : Fin cfg2.N, cond2_1 (grid2.coords t) ↔ t.val % 6 = 5 :=
  (fun t => by
    have ht : t.val < 48 := Nat.lt_of_lt_of_eq t.isLt N_2
    have e0 : (grid2.coords t 0).val = t.val / 24 % 2 := Pipeline.Grid.coords_val t 0 (by decide) rfl
    have e1 : (grid2.coords t 1).val = t.val / 6 % 4 := Pipeline.Grid.coords_val t 1 (by decide) rfl
    have e2 : (grid2.coords t 2).val = t.val / 1 % 6 := Pipeline.Grid.coords_val t 2 (by decide) rfl
    simp only [cond2_1, k2_cond2, e0, e1, e2]
    word_cmp
   : ∀ t : Fin grid2.N, cond2_1 (grid2.coords t) ↔ t.val % 6 = 5)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- At the points of case A the printed configuration (`Cfg.idle`) calls output 5 idle: the case stores nothing into it. -/
theorem idleAt2_5_A : ∀ t : Fin cfg2.N, cond2_0 (grid2.coords t) → ¬cond2_1 (grid2.coords t) → cfg2.idle 5 (grid2.coords t) = true := by decide +kernel
/-- At the points of case A the pipeline does not write output 5's block back. -/
theorem noFlush2_5_A : ∀ t : Fin cfg2.N, cond2_0 (grid2.coords t) → ¬cond2_1 (grid2.coords t) → (cfg2.win 5).flush t = false := by decide +kernel
/-- At the points of case B the printed configuration (`Cfg.idle`) calls output 5 idle: the case stores nothing into it. -/
theorem idleAt2_5_B : ∀ t : Fin cfg2.N, ¬cond2_0 (grid2.coords t) → ¬cond2_1 (grid2.coords t) → cfg2.idle 5 (grid2.coords t) = true := by decide +kernel
/-- At the points of case B the pipeline does not write output 5's block back. -/
theorem noFlush2_5_B : ∀ t : Fin cfg2.N, ¬cond2_0 (grid2.coords t) → ¬cond2_1 (grid2.coords t) → (cfg2.win 5).flush t = false := by decide +kernel
/-- At the points of case C the printed configuration (`Cfg.idle`) calls output 5 live: the case stores into it. -/
theorem liveAt2_5_C : ∀ t : Fin cfg2.N, ¬cond2_0 (grid2.coords t) → cond2_1 (grid2.coords t) → cfg2.idle 5 (grid2.coords t) = false := by decide +kernel

/-! ## The kernel body on any staging memrefs: a subtype the run finds -/

/-- One staging buffer of output window 5, through which its contents are stated (`View.read_writes_of_cover`: the
    choice does not matter). -/
abbrev VO2_5 : View sig .tc .vmem S1408x1024 .f32 := (Memref.whole cc2_stg5_0 : Memref sig .tc .vmem S1408x1024 .f32).view
/-- Each window's current staging memref at point `t`, spelled as the pipeline passes it (`bodyAt2`), and its wholeness. -/
abbrev ms2_0 (t : Fin cfg2.N) : Memref sig .tc .vmem S1408x4096 .fp8e4m3 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1024 .fp8e5m2 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1408x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1408x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1408x1024 .f32 := win2_5.stage (cfg2.slots t 5)
abbrev hs2_5 (t : Fin cfg2.N) : (ms2_5 t).IsWhole := hstage2_5 ((cfg2.slots t 5).cast nbuf2_5)
/-- The scratch operands: whole scoped buffers of the kernel's own, passed beside the windows. -/
abbrev scM2_0 : Memref sig .tc .vmem S1408x1024 .f32 := Memref.whole cc2_scratch0
/-- The scratch `arg9` the kernel carries between points, as a view: what it holds is stated through it. -/
abbrev VS2_0 : View sig .tc .vmem S1408x1024 .f32 := scM2_0.view

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d)) ∗ (∃ r, prngReg c r)) := by
  unfold Pipeline.ΦA; rw [scopedRest2_eq]; simp only [scM2_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 6, … 42: 8 of 48), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) :
    Σ' (L5 : List (View.Piece (Elt F) S1408x1024 .f32)), { LS0 : List (View.Piece (Elt F) S1408x1024 .f32) //
      ∀ (xi5 : Vec F S1408x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2_wgrad i arg3 harg3 arg4 harg4 arg5 harg5 arg6 harg6 arg7 harg7 arg8 harg8 arg9 harg9) K } := by
  refine ⟨[], ?_, fun xi5 E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

/-- Case A stores nothing into output 5 (the window is idle at its points and not written back there):
    no pieces — a placeholder (junk read back) that nothing consults, since at these points the window is neither
    written back nor read at the next point (Lib/Pipeline.lean "Idle points"). -/
def out2_A_5 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) : Vec F S1408x1024 .f32 :=
  VO2_5.read (Elt F) (VO2_5.writes (Elt F) VO2_5.junk (kernelRun2_A c i arg3 harg3 arg4 harg4 arg5 harg5 arg6 harg6 arg7 harg7 arg8 harg8 arg9 harg9 hc0 hc1 x0 x1 x2 x3 x4).1)

/-- Case A's pieces for scratch `arg9`, which the kernel carries between points, cover it: 2 pieces of `S1408x1024` tiling it (Lib/Ring.lean `Piece.tiledL`). -/
theorem scover2_A_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (y : S1408x1024.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S1408x1024.size (by sl_kernel_rfl) y

/-- What case A leaves in scratch `arg9`: its pieces read back over junk. -/
def sout2_A_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) : Vec F S1408x1024 .f32 :=
  VS2_0.read (Elt F) (VS2_0.writes (Elt F) VS2_0.junk (kernelRun2_A c i arg3 harg3 arg4 harg4 arg5 harg5 arg6 harg6 arg7 harg7 arg8 harg8 arg9 harg9 hc0 hc1 x0 x1 x2 x3 x4).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 46: 32 of 48), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) :
    Σ' (L5 : List (View.Piece (Elt F) S1408x1024 .f32)), { LS0 : List (View.Piece (Elt F) S1408x1024 .f32) //
      ∀ (xi5 : Vec F S1408x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2_wgrad i arg3 harg3 arg4 harg4 arg5 harg5 arg6 harg6 arg7 harg7 arg8 harg8 arg9 harg9) K } := by
  refine ⟨[], ?_, fun xi5 E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

/-- Case B stores nothing into output 5 (the window is idle at its points and not written back there):
    no pieces — a placeholder (junk read back) that nothing consults, since at these points the window is neither
    written back nor read at the next point (Lib/Pipeline.lean "Idle points"). -/
def out2_B_5 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) : Vec F S1408x1024 .f32 :=
  VO2_5.read (Elt F) (VO2_5.writes (Elt F) VO2_5.junk (kernelRun2_B c i arg3 harg3 arg4 harg4 arg5 harg5 arg6 harg6 arg7 harg7 arg8 harg8 arg9 harg9 hc0 hc1 x0 x1 x2 x3 x4 xs0).1)

/-- Case B's pieces for scratch `arg9`, which the kernel carries between points, cover it: 1 piece of `S1408x1024` tiling it (Lib/Ring.lean `Piece.tiledL`). -/
theorem scover2_B_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) (y : S1408x1024.Idx) :
    ∃ pc ∈ (kernelRun2_B c i arg3 harg3 arg4 harg4 arg5 harg5 arg6 harg6 arg7 harg7 arg8 harg8 arg9 harg9 hc0 hc1 x0 x1 x2 x3 x4 xs0).2.1, y ∈ pc.1.set :=
  View.cover_of_tiledL (kernelRun2_B c i arg3 harg3 arg4 harg4 arg5 harg5 arg6 harg6 arg7 harg7 arg8 harg8 arg9 harg9 hc0 hc1 x0 x1 x2 x3 x4 xs0).2.1 S1408x1024.size (by sl_kernel_rfl) y

/-- What case B leaves in scratch `arg9`: its pieces read back over junk. -/
def sout2_B_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) : Vec F S1408x1024 .f32 :=
  VS2_0.read (Elt F) (VS2_0.writes (Elt F) VS2_0.junk (kernelRun2_B c i arg3 harg3 arg4 harg4 arg5 harg5 arg6 harg6 arg7 harg7 arg8 harg8 arg9 harg9 hc0 hc1 x0 x1 x2 x3 x4 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 5, 11, … 47: 8 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) :
    Σ' (L5 : List (View.Piece (Elt F) S1408x1024 .f32)), { LS0 : List (View.Piece (Elt F) S1408x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2_wgrad i arg3 harg3 arg4 harg4 arg5 harg5 arg6 harg6 arg7 harg7 arg8 harg8 arg9 harg9) K } := by
  refine ⟨?_, ?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

/-- Case C's pieces for output 5 tile its block (1 store of `S1408x1024`, checked by the kernel's evaluation: Lib/Ring.lean `Piece.tiledL`, linear in the pieces, through a loop's `@[irreducible]` trip theorem too), so they cover it. -/
theorem cover2_C_5 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) (y : S1408x1024.Idx) :
    ∃ pc ∈ (kernelRun2_C c i arg3 harg3 arg4 harg4 arg5 harg5 arg6 harg6 arg7 harg7 arg8 harg8 arg9 harg9 hc0 hc1 x0 x1 x2 x3 x4 xs0).1, y ∈ pc.1.set :=
  View.cover_of_tiledL (kernelRun2_C c i arg3 harg3 arg4 harg4 arg5 harg5 arg6 harg6 arg7 harg7 arg8 harg8 arg9 harg9 hc0 hc1 x0 x1 x2 x3 x4 xs0).1 S1408x1024.size (by sl_kernel_rfl) y

/-- What case C leaves in output 5's staging buffer: its pieces read back over junk. -/
def out2_C_5 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) : Vec F S1408x1024 .f32 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 x4 xs0).1)

/-- Case C's pieces for scratch `arg9`, which the kernel carries between points, cover it: 1 piece of `S1408x1024` tiling it (Lib/Ring.lean `Piece.tiledL`). -/
theorem scover2_C_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) (y : S1408x1024.Idx) :
    ∃ pc ∈ (kernelRun2_C c i arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 hc0 hc1 x0 x1 x2 x3 x4 xs0).2.1 S1408x1024.size (by sl_kernel_rfl) y

/-- What case C leaves in scratch `arg9`: its pieces read back over junk. -/
def sout2_C_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) : Vec F S1408x1024 .f32 :=
  VS2_0.read (Elt F) (VS2_0.writes (Elt F) VS2_0.junk (kernelRun2_C c i arg3 harg3 arg4 harg4 arg5 harg5 arg6 harg6 arg7 harg7 arg8 harg8 arg9 harg9 hc0 hc1 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1408x1024 .f32 × Vec F S1408x1024 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 6 = 0 then
      if h1 : (n + 1) % 6 = 5 then
        False.elim (by have hN : n + 1 < 48 := lt_of_lt_of_eq hn (show cfg2.N = 48 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 6 = 5 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at a point of case A: that case's contents. -/
theorem outsAt2_A (c : Dev nD) (t : Fin cfg2.N) (h0 : t.val % 6 = 0) (h1 : ¬t.val % 6 = 5) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 6 = 0) (h1 : ¬t.val % 6 = 5) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 6 = 0) (h1 : t.val % 6 = 5) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS_r2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r))

theorem PhiS_zero_r2 (c : Dev nD) (n : ℕ) (h : n ≤ cfg2.N) (hz : n = 0) : PhiS_r2 V c n h = Pipeline.ΦA spec2 c := by
  subst hz; rfl

/-- After point `n` (before point `n + 1`): the carried scratch at that point's contents. -/
theorem PhiS_succ_r2 (c : Dev nD) (n : ℕ) (hn : n < cfg2.N) :
    PhiS_r2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r)) := rfl

/-- Before a point that is not the first: the carried scratch at what the point before left. -/
theorem PhiS_pos_r2 (c : Dev nD) (n : ℕ) (h : n ≤ cfg2.N) (hz : n ≠ 0) :
    PhiS_r2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS_r2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS_r2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS_castSucc_r2 (c : Dev nD) (t : Fin cfg2.N) :
    (dat2 V c).Φ t.castSucc = PhiS_r2 V c t.val (Nat.le_of_lt t.isLt) := by
  dsimp only [dat2]; exact Pipeline.Dat.Φ_castSucc (PhiS_r2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks (`before2_W`); the closed forms say which case the point is in (`by_cases`), an output the case reads before covering holds what the point before left (`before2_W_κ`); so the
    run applies; the invariant hands the body the carried scratch at what the point before left (`PhiS_pos_r2`; at anything at the first point, `PhiS_zero_r2`), the other scratch buffers and the generator register at some state, and takes the carried scratch back at this point's contents (`PhiS_succ_r2`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS_r2 V c (t.val + 1) t.isLt from rfl, PhiS_succ_r2]
  have hN : t.val < 48 := lt_of_lt_of_eq t.isLt (show cfg2.N = 48 from N_2)
  by_cases h0 : t.val % 6 = 0
  · by_cases h1 : t.val % 6 = 5
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      by_cases hz : t.val = 0
      · rw [PhiS_castSucc_r2 V c t, PhiS_zero_r2 V c _ _ hz, PhiA2_eq]
        rw [outsAt2_A V c t h0 h1]
        unfold sout2_A_0; (try dsimp only)
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc_r2 V c t, PhiS_pos_r2 V c _ _ hz]
        rw [outsAt2_A V c t h0 h1]
        unfold sout2_A_0; (try dsimp only)
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 6 = 5
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5_C t (fun h => h0 ((hcond2_0 t).mp h)) ((hcond2_1 t).mpr h1)], after2_5]
      by_cases hz : t.val = 0
      · exfalso; have hN : t.val < 48 := lt_of_lt_of_eq t.isLt (show cfg2.N = 48 from N_2); omega
      · rw [PhiS_castSucc_r2 V c t, PhiS_pos_r2 V c _ _ hz]
        rw [outsAt2_C V c t h0 h1]
        unfold out2_C_5 sout2_C_0; (try dsimp only)
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            unfold owns; iexists _; isplitr
            swap; · iexact HS0
            ipureintro; exact View.read_writes_of_cover _ _ _ _ _ (scover2_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      by_cases hz : t.val = 0
      · exfalso; have hN : t.val < 48 := lt_of_lt_of_eq t.isLt (show cfg2.N = 48 from N_2); omega
      · rw [PhiS_castSucc_r2 V c t, PhiS_pos_r2 V c _ _ hz]
        rw [outsAt2_B V c t h0 h1]
        unfold sout2_B_0; (try dsimp only)
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            unfold owns; iexists _; isplitr
            swap; · iexact HS0
            ipureintro; exact View.read_writes_of_cover _ _ _ _ _ (scover2_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin_r2 (c : Dev nD) : Pipeline.ΦA spec2 c ⊢ (dat2 V c).Φ 0 := by
  rw [show (dat2 V c).Φ 0 = PhiS_r2 V c 0 (Nat.zero_le _) from rfl, PhiS_zero_r2 V c 0 _ rfl]
  try exact Idealize.SL.BI.Entails.refl _

/-- After any point but the first the invariant gives `ΦA` back: the carried scratch's named contents are forgotten. -/
theorem Phi_out_r2 (c : Dev nD) (t : Fin (cfg2.N + 1)) (ht : t.val ≠ 0) : (dat2 V c).Φ t ⊢ Pipeline.ΦA spec2 c := by
  rw [show (dat2 V c).Φ t = PhiS_r2 V c t.val (Nat.le_of_lt_succ t.isLt) from rfl, PhiS_pos_r2 V c _ _ ht, PhiA2_eq]
  iintro ⟨⟨HR0, HR1, HR2, HR3, HR4, HR5, HR6, HR7, HR8, HR9, HR10, HR11, HS0⟩, Hg⟩
  isplitl [HR0 HR1 HR2 HR3 HR4 HR5 HR6 HR7 HR8 HR9 HR10 HR11 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    iexists _; iexact HS0
  iexact Hg

/-- The same after the last point. -/
theorem hout_r2 (c : Dev nD) : (dat2 V c).Φ (Fin.last cfg2.N) ⊢ Pipeline.ΦA spec2 c :=
  Phi_out_r2 V c _ (by rw [Fin.val_last]; have : cfg2.N = 48 := N_2; omega)

end Regions

end Cert.Kernel.Gen

end
-- ==== Proof.Kernel.Hosts0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v7, main_v8]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.Kernel.Gen

end
-- ==== Proof.Kernel.Fold0.lean ====
module

public import proofs.«01_k».proof.Proof.Kernel.Region0
public import proofs.«01_k».proof.Proof.Kernel.Region1
public import proofs.«01_k».proof.Proof.Kernel.Region2
public import proofs.«01_k».proof.Proof.Kernel.Hosts0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
end Cert.Kernel.Gen

end
-- ==== Proof.Kernel.State.lean ====
module

public import proofs.«01_k».proof.Proof.Kernel.Fold0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

end Cert.Kernel.Gen

end
-- ==== Proof.Kernel.Record0.lean ====
module

public import proofs.«01_k».proof.Proof.Kernel.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin_r0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last _) from rfl]
    iintro HΦ
    ihave H := (hout_r0 (V1 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Kernel.Record1.lean ====
module

public import proofs.«01_k».proof.Proof.Kernel.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Kernel.Record2.lean ====
module

public import proofs.«01_k».proof.Proof.Kernel.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V4 m ρ) c).Φ 0 from rfl]
    iintro ⟨Hp, -, Hr⟩
    iapply (hin_r2 (V4 m ρ) c)
    unfold Pipeline.ΦA
    isplitl [Hr]; · iexact Hr
    iexact Hp
  hout c := by
    rw [Pipeline.ownSems0_none, show (pdats m ρ 2 c).Φ (Fin.last _) = (dat2 (V4 m ρ) c).Φ (Fin.last _) from rfl]
    iintro HΦ
    ihave H := (hout_r2 (V4 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Kernel.Frame.lean ====
module

public import proofs.«01_k».proof.Proof.Kernel.Record0
public import proofs.«01_k».proof.Proof.Kernel.Record1
public import proofs.«01_k».proof.Proof.Kernel.Record2

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W6_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.Kernel.Gen

end
-- ==== Proof.KernelIdeal.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_amax` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 24 = 23 :=
  (fun t => by
    have ht : t.val < 24 := Nat.lt_of_lt_of_eq t.isLt N_0
    have e0 : (grid0.coords t 0).val = t.val / 1 % 24 := Pipeline.Grid.coords_val t 0 (by decide) rfl
    simp only [cond0_1, k0_cond2, e0]
    word_cmp
   : ∀ t : Fin grid0.N, cond0_1 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x2816 .f32 := (Memref.whole cc0_stg1_0 : Memref sig .tc .vmem S1x2816 .f32).view
/-- One staging buffer of output window 2, through which its contents are stated (`View.read_writes_of_cover`: the
    choice does not matter). -/
abbrev VO0_2 : View sig .tc .vmem S1x2816 .bf16 := (Memref.whole cc0_stg2_0 : Memref sig .tc .vmem S1x2816 .bf16).view
/-- Each window's current staging memref at point `t`, spelled as the pipeline passes it (`bodyAt0`), and its wholeness. -/
abbrev ms0_0 (t : Fin cfg0.N) : Memref sig .tc .vmem S1024x2816 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2816 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2816 .bf16 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x2816 .bf16 := Memref.whole cc0_scratch0
/-- The scratch `arg4` the kernel carries between points, as a view: what it holds is stated through it. -/
abbrev VS0_0 : View sig .tc .vmem S16x2816 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) :
    Σ' (L1 : List (View.Piece (Elt F) S1x2816 .f32)), Σ' (L2 : List (View.Piece (Elt F) S1x2816 .bf16)), { LS0 : List (View.Piece (Elt F) S16x2816 .bf16) //
      ∀ (xi1 : Vec F S1x2816 .f32) (xi2 : Vec F S1x2816 .bf16) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨[], [], ?_, fun xi1 xi2 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) : Vec F S1x2816 .f32 :=
  VO0_1.read (Elt F) (VO0_1.writes (Elt F) VO0_1.junk (kernelRun0_A c i arg1 harg1 arg2 harg2 arg3 harg3 arg4 harg4 hc0 hc1 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) : Vec F S1x2816 .bf16 :=
  VO0_2.read (Elt F) (VO0_2.writes (Elt F) VO0_2.junk (kernelRun0_A c i arg1 harg1 arg2 harg2 arg3 harg3 arg4 harg4 hc0 hc1 x0).2.1)

/-- Case A's pieces for scratch `arg4`, which the kernel carries between points, cover it: 2 pieces of `S16x2816` tiling it (Lib/Ring.lean `Piece.tiledL`). -/
theorem scover0_A_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) (y : S16x2816.Idx) :
    ∃ pc ∈ (kernelRun0_A c i arg1 harg1 arg2 harg2 arg3 harg3 arg4 harg4 hc0 hc1 x0).2.2.1, y ∈ pc.1.set :=
  View.cover_of_tiledL (kernelRun0_A c i arg1 harg1 arg2 harg2 arg3 harg3 arg4 harg4 hc0 hc1 x0).2.2.1 S16x2816.size (by sl_kernel_rfl) y

/-- What case A leaves in scratch `arg4`: its pieces read back over junk. -/
def sout0_A_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : cond0_0 i) (hc1 : ¬cond0_1 i)
    (x0 : Vec F S1024x2816 .bf16) : Vec F S16x2816 .bf16 :=
  VS0_0.read (Elt F) (VS0_0.writes (Elt F) VS0_0.junk (kernelRun0_A c i arg1 harg1 arg2 harg2 arg3 harg3 arg4 harg4 hc0 hc1 x0).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 22: 22 of 24), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) :
    Σ' (L1 : List (View.Piece (Elt F) S1x2816 .f32)), Σ' (L2 : List (View.Piece (Elt F) S1x2816 .bf16)), { LS0 : List (View.Piece (Elt F) S16x2816 .bf16) //
      ∀ (xi1 : Vec F S1x2816 .f32) (xi2 : Vec F S1x2816 .bf16) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨[], [], ?_, fun xi1 xi2 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) : Vec F S1x2816 .f32 :=
  VO0_1.read (Elt F) (VO0_1.writes (Elt F) VO0_1.junk (kernelRun0_B c i arg1 harg1 arg2 harg2 arg3 harg3 arg4 harg4 hc0 hc1 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) : Vec F S1x2816 .bf16 :=
  VO0_2.read (Elt F) (VO0_2.writes (Elt F) VO0_2.junk (kernelRun0_B c i arg1 harg1 arg2 harg2 arg3 harg3 arg4 harg4 hc0 hc1 x0 xs0).2.1)

/-- Case B's pieces for scratch `arg4`, which the kernel carries between points, cover it: 1 piece of `S16x2816` tiling it (Lib/Ring.lean `Piece.tiledL`). -/
theorem scover0_B_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) (y : S16x2816.Idx) :
    ∃ pc ∈ (kernelRun0_B c i arg1 harg1 arg2 harg2 arg3 harg3 arg4 harg4 hc0 hc1 x0 xs0).2.2.1, y ∈ pc.1.set :=
  View.cover_of_tiledL (kernelRun0_B c i arg1 harg1 arg2 harg2 arg3 harg3 arg4 harg4 hc0 hc1 x0 xs0).2.2.1 S16x2816.size (by sl_kernel_rfl) y

/-- What case B leaves in scratch `arg4`: its pieces read back over junk. -/
def sout0_B_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : ¬cond0_1 i)
    (x0 : Vec F S1024x2816 .bf16) (xs0 : Vec F S16x2816 .bf16) : Vec F S16x2816 .bf16 :=
  VS0_0.read (Elt F) (VS0_0.writes (Elt F) VS0_0.junk (kernelRun0_B c i arg1 harg1 arg2 harg2 arg3 harg3 arg4 harg4 hc0 hc1 x0 xs0).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) :
    Σ' (L1 : List (View.Piece (Elt F) S1x2816 .f32)), Σ' (L2 : List (View.Piece (Elt F) S1x2816 .bf16)), { LS0 : List (View.Piece (Elt F) S16x2816 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨?_, ?_, ?_, fun E K => ?run⟩
  case run =>
    simp only [cc0_amax_eq_skeleton]; unfold cc0_amax_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

/-- Case C's pieces for output 1 tile its block (1 store of `S1x2816`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) (y : S1x2816.Idx) :
    ∃ pc ∈ (kernelRun0_C c i arg1 harg1 arg2 harg2 arg3 harg3 arg4 harg4 hc0 hc1 x0 xs0).1, y ∈ pc.1.set :=
  View.cover_of_tiledL (kernelRun0_C c i arg1 harg1 arg2 harg2 arg3 harg3 arg4 harg4 hc0 hc1 x0 xs0).1 S1x2816.size (by sl_kernel_rfl) y

/-- What case C leaves in output 1's staging buffer: its pieces read back over junk. -/
def out0_C_1 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) : Vec F S1x2816 .f32 :=
  VO0_1.read (Elt F) (VO0_1.writes (Elt F) VO0_1.junk (kernelRun0_C c i arg1 harg1 arg2 harg2 arg3 harg3 arg4 harg4 hc0 hc1 x0 xs0).1)

/-- Case C's pieces for output 2 tile its block (1 store of `S1x2816`, checked by the kernel's evaluation: Lib/Ring.lean `Piece.tiledL`, linear in the pieces, through a loop's `@[irreducible]` trip theorem too), so they cover it. -/
theorem cover0_C_2 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) (y : S1x2816.Idx) :
    ∃ pc ∈ (kernelRun0_C c i arg1 harg1 arg2 harg2 arg3 harg3 arg4 harg4 hc0 hc1 x0 xs0).2.1, y ∈ pc.1.set :=
  View.cover_of_tiledL (kernelRun0_C c i arg1 harg1 arg2 harg2 arg3 harg3 arg4 harg4 hc0 hc1 x0 xs0).2.1 S1x2816.size (by sl_kernel_rfl) y

/-- What case C leaves in output 2's staging buffer: its pieces read back over junk. -/
def out0_C_2 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) : Vec F S1x2816 .bf16 :=
  VO0_2.read (Elt F) (VO0_2.writes (Elt F) VO0_2.junk (kernelRun0_C c i arg1 harg1 arg2 harg2 arg3 harg3 arg4 harg4 hc0 hc1 x0 xs0).2.1)

/-- Case C's pieces for scratch `arg4`, which the kernel carries between points, cover it: 1 piece of `S16x2816` tiling it (Lib/Ring.lean `Piece.tiledL`). -/
theorem scover0_C_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) (y : S16x2816.Idx) :
    ∃ pc ∈ (kernelRun0_C c i arg1 harg1 arg2 harg2 arg3 harg3 arg4 harg4 hc0 hc1 x0 xs0).2.2.1, y ∈ pc.1.set :=
  View.cover_of_tiledL (kernelRun0_C c i arg1 harg1 arg2 harg2 arg3 harg3 arg4 harg4 hc0 hc1 x0 xs0).2.2.1 S16x2816.size (by sl_kernel_rfl) y

/-- What case C leaves in scratch `arg4`: its pieces read back over junk. -/
def sout0_C_0 (c : Dev nD) (i : grid0.Coords) (arg1 : Memref sig .tc .vmem S1024x2816 .bf16) (harg1 : arg1.IsWhole) (arg2 : Memref sig .tc .vmem S1x2816 .f32) (harg2 : arg2.IsWhole) (arg3 : Memref sig .tc .vmem S1x2816 .bf16) (harg3 : arg3.IsWhole) (arg4 : Memref sig .tc .vmem S16x2816 .bf16) (harg4 : arg4.IsWhole) (hc0 : ¬cond0_0 i) (hc1 : cond0_1 i)
    (x0 : Vec F S1024x2816 .bf16) (xs0 : Vec F S16x2816 .bf16) : Vec F S16x2816 .bf16 :=
  VS0_0.read (Elt F) (VS0_0.writes (Elt F) VS0_0.junk (kernelRun0_C c i arg1 harg1 arg2 harg2 arg3 harg3 arg4 harg4 hc0 hc1 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2816 .f32 × Vec F S1x2816 .bf16 × Vec F S16x2816 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 24 = 0 then
      if h1 : (n + 1) % 24 = 23 then
        False.elim (by have hN : n + 1 < 24 := lt_of_lt_of_eq hn (show cfg0.N = 24 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 24 = 23 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

/-- `outsAt0` at a point of case A: that case's contents. -/
theorem outsAt0_A (c : Dev nD) (t : Fin cfg0.N) (h0 : t.val % 24 = 0) (h1 : ¬t.val % 24 = 23) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 24 = 0) (h1 : ¬t.val % 24 = 23) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 24 = 0) (h1 : t.val % 24 = 23) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS_r0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) ∗ (∃ r, prngReg c r))

theorem PhiS_zero_r0 (c : Dev nD) (n : ℕ) (h : n ≤ cfg0.N) (hz : n = 0) : PhiS_r0 V c n h = Pipeline.ΦA spec0 c := by
  subst hz; rfl

/-- After point `n` (before point `n + 1`): the carried scratch at that point's contents. -/
theorem PhiS_succ_r0 (c : Dev nD) (n : ℕ) (hn : n < cfg0.N) :
    PhiS_r0 V c (n + 1) hn = iprop(iprop(owns (c : Thread nD τ) scM0_0 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) ∗ (∃ r, prngReg c r)) := rfl

/-- Before a point that is not the first: the carried scratch at what the point before left. -/
theorem PhiS_pos_r0 (c : Dev nD) (n : ℕ) (h : n ≤ cfg0.N) (hz : n ≠ 0) :
    PhiS_r0 V c n h = iprop(iprop(owns (c : Thread nD τ) scM0_0 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS_r0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS_r0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc_r0 (c : Dev nD) (t : Fin cfg0.N) :
    (dat0 V c).Φ t.castSucc = PhiS_r0 V c t.val (Nat.le_of_lt t.isLt) := by
  dsimp only [dat0]; exact Pipeline.Dat.Φ_castSucc (PhiS_r0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos_r0`; at anything at the first point, `PhiS_zero_r0`), the other scratch buffers and the generator register at some state, and takes the carried scratch back at this point's contents (`PhiS_succ_r0`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS_r0 V c (t.val + 1) t.isLt from rfl, PhiS_succ_r0]
  have hN : t.val < 24 := lt_of_lt_of_eq t.isLt (show cfg0.N = 24 from N_0)
  by_cases h0 : t.val % 24 = 0
  · by_cases h1 : t.val % 24 = 23
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc_r0 V c t, PhiS_zero_r0 V c _ _ hz, PhiA0_eq]
        rw [outsAt0_A V c t h0 h1]
        unfold sout0_A_0; (try dsimp only)
        iintro ⟨⟨⟨HS0, HR1, HR2, HR3, HR4, HR5, HR6, HR7, HR8, HR9, HR10, HR11, HR12, HR13, HR14, HR15, HR16, HR17, HR18, HR19, HR20⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t)).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR1 HR2 HR3 HR4 HR5 HR6 HR7 HR8 HR9 HR10 HR11 HR12 HR13 HR14 HR15 HR16 HR17 HR18 HR19 HR20 Hg]
        · isplitl [HS0 HR1 HR2 HR3 HR4 HR5 HR6 HR7 HR8 HR9 HR10 HR11 HR12 HR13 HR14 HR15 HR16 HR17 HR18 HR19 HR20]
          · isplitl [HS0]
            · unfold owns; iexists _; isplitr
              swap; · iexact HS0
              ipureintro; exact View.read_writes_of_cover _ _ _ _ _ (scover0_A_0 c _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            iexact HR20
          iexact Hg
        isplitl [Ho]; · iexact Ho
        isplitl [H0]; · iexact H0
        isplitl [H1]; · iexists _; iexact H1
        iexists _; iexact H2
      · exfalso; have hN : t.val < 24 := lt_of_lt_of_eq t.isLt (show cfg0.N = 24 from N_0); omega
  · by_cases h1 : t.val % 24 = 23
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 24 := lt_of_lt_of_eq t.isLt (show cfg0.N = 24 from N_0); omega
      · rw [PhiS_castSucc_r0 V c t, PhiS_pos_r0 V c _ _ hz]
        rw [outsAt0_C V c t h0 h1]
        unfold out0_C_1 out0_C_2 sout0_C_0; (try dsimp only)
        iintro ⟨⟨⟨HS0, HR1, HR2, HR3, HR4, HR5, HR6, HR7, HR8, HR9, HR10, HR11, HR12, HR13, HR14, HR15, HR16, HR17, HR18, HR19, HR20⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) _).2.2.2 Set.univ _)
        isplitl [H0]; · iexact H0
        isplitl [H1]; · iexists _; iexact H1
        isplitl [H2]; · iexists _; iexact H2
        isplitl [HS0]; · iexact HS0
        iintro ⟨H0, ⟨%e1, H1⟩, ⟨%e2, H2⟩, ⟨%es0, HS0⟩⟩
        isplitl [HS0 HR1 HR2 HR3 HR4 HR5 HR6 HR7 HR8 HR9 HR10 HR11 HR12 HR13 HR14 HR15 HR16 HR17 HR18 HR19 HR20 Hg]
        · isplitl [HS0 HR1 HR2 HR3 HR4 HR5 HR6 HR7 HR8 HR9 HR10 HR11 HR12 HR13 HR14 HR15 HR16 HR17 HR18 HR19 HR20]
          · isplitl [HS0]
            · unfold owns; iexists _; isplitr
              swap; · iexact HS0
              ipureintro; exact View.read_writes_of_cover _ _ _ _ _ (scover0_C_0 c _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            iexact HR20
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _)
        unfold owns; iexists _; isplitr
        swap; · iexact H2
        ipureintro; exact View.read_writes_of_cover _ _ _ _ _ (cover0_C_2 c _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 24 := lt_of_lt_of_eq t.isLt (show cfg0.N = 24 from N_0); omega
      · rw [PhiS_castSucc_r0 V c t, PhiS_pos_r0 V c _ _ hz]
        rw [outsAt0_B V c t h0 h1]
        unfold sout0_B_0; (try dsimp only)
        iintro ⟨⟨⟨HS0, HR1, HR2, HR3, HR4, HR5, HR6, HR7, HR8, HR9, HR10, HR11, HR12, HR13, HR14, HR15, HR16, HR17, HR18, HR19, HR20⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) _).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR1 HR2 HR3 HR4 HR5 HR6 HR7 HR8 HR9 HR10 HR11 HR12 HR13 HR14 HR15 HR16 HR17 HR18 HR19 HR20 Hg]
        · isplitl [HS0 HR1 HR2 HR3 HR4 HR5 HR6 HR7 HR8 HR9 HR10 HR11 HR12 HR13 HR14 HR15 HR16 HR17 HR18 HR19 HR20]
          · isplitl [HS0]
            · unfold owns; iexists _; isplitr
              swap; · iexact HS0
              ipureintro; exact View.read_writes_of_cover _ _ _ _ _ (scover0_B_0 c _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HR19]
            · iexact HR19
            iexact HR20
          iexact Hg
        isplitl [Ho]; · iexact Ho
        isplitl [H0]; · iexact H0
        isplitl [H1]; · iexists _; iexact H1
        iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin_r0 (c : Dev nD) : Pipeline.ΦA spec0 c ⊢ (dat0 V c).Φ 0 := by
  rw [show (dat0 V c).Φ 0 = PhiS_r0 V c 0 (Nat.zero_le _) from rfl, PhiS_zero_r0 V c 0 _ rfl]
  try exact Idealize.SL.BI.Entails.refl _

/-- After any point but the first the invariant gives `ΦA` back: the carried scratch's named contents are forgotten. -/
theorem Phi_out_r0 (c : Dev nD) (t : Fin (cfg0.N + 1)) (ht : t.val ≠ 0) : (dat0 V c).Φ t ⊢ Pipeline.ΦA spec0 c := by
  rw [show (dat0 V c).Φ t = PhiS_r0 V c t.val (Nat.le_of_lt_succ t.isLt) from rfl, PhiS_pos_r0 V c _ _ ht, PhiA0_eq]
  iintro ⟨⟨HS0, HR1, HR2, HR3, HR4, HR5, HR6, HR7, HR8, HR9, HR10, HR11, HR12, HR13, HR14, HR15, HR16, HR17, HR18, HR19, HR20⟩, Hg⟩
  isplitl [HS0 HR1 HR2 HR3 HR4 HR5 HR6 HR7 HR8 HR9 HR10 HR11 HR12 HR13 HR14 HR15 HR16 HR17 HR18 HR19 HR20]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    iexact HR20
  iexact Hg

/-- The same after the last point. -/
theorem hout_r0 (c : Dev nD) : (dat0 V c).Φ (Fin.last cfg0.N) ⊢ Pipeline.ΦA spec0 c :=
  Phi_out_r0 V c _ (by rw [Fin.val_last]; have : cfg0.N = 24 := N_0; omega)

end Regions

end Cert.KernelIdeal.Gen

end
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_quant` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2816 := Rect.unit (s := S512x2816) ![0, 0] S512x2816.size inb_S512x2816_S512x2816_0_0
abbrev r1_1 : Rect S1x2816 := Rect.unit (s := S1x2816) ![0, 0] S1x2816.size inb_S1x2816_S1x2816_0_0
abbrev r1_2 : Rect S2816x512 := Rect.unit (s := S2816x512) ![0, 0] S2816x512.size inb_S2816x512_S2816x512_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S512x2816 .bf16) (x1 : Vec F S1x2816 .bf16) : Vec F S512x2816 .fp8e4m3 :=
  View.canon [⟨r1_0, k1_pay1 (View.ld x0 r1_0) (View.ld x1 r1_1)⟩]

/-- Its stores tile the buffer (checked by evaluation), so they cover it. -/
theorem cover1_2 (p0 : Vec F S512x2816 .fp8e4m3) (y : S512x2816.Idx) :
    ∃ pc ∈ ([⟨r1_0, p0⟩] : List (View.Piece (Elt F) S512x2816 .fp8e4m3)), y ∈ pc.1.set :=
  View.cover_of_tiled [⟨r1_0, p0⟩] S512x2816.size (by rfl) y

/-- Window 3's staging buffer after the body, from the input windows' blocks: its 1 store as pieces, LAST
    FIRST (Lib/Pipeline/FrameBody.lean `View.canon`; the payloads are the skeleton's). -/
def out1_3 (x0 : Vec F S512x2816 .bf16) (x1 : Vec F S1x2816 .bf16) : Vec F S2816x512 .fp8e4m3 :=
  View.canon [⟨r1_2, k1_pay2 (View.ld x0 r1_0) (View.ld x1 r1_1)⟩]

/-- Its stores tile the buffer (checked by evaluation), so they cover it. -/
theorem cover1_3 (p0 : Vec F S2816x512 .fp8e4m3) (y : S2816x512.Idx) :
    ∃ pc ∈ ([⟨r1_2, p0⟩] : List (View.Piece (Elt F) S2816x512 .fp8e4m3)), y ∈ pc.1.set :=
  View.cover_of_tiled [⟨r1_2, p0⟩] S2816x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S512x2816 .bf16) (harg1 : arg1.IsWhole) (arg2 : Memref sig .tc .vmem S1x2816 .bf16) (harg2 : arg2.IsWhole) (arg3 : Memref sig .tc .vmem S512x2816 .fp8e4m3) (harg3 : arg3.IsWhole) (arg4 : Memref sig .tc .vmem S2816x512 .fp8e4m3) (harg4 : arg4.IsWhole)
    (x0 : Vec F S512x2816 .bf16) (x1 : Vec F S1x2816 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1_quant i arg1 harg1 arg2 harg2 arg3 harg3 arg4 harg4) K := by
  simp only [cc1_quant_eq_skeleton]; unfold cc1_quant_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_wgrad` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 2).val) 0#32)) 0#32) = 1#1
/-- It holds at the points ≡ 0 (mod 6) — by arithmetic of the point. -/
theorem hcond2_0 : ∀ t : Fin cfg2.N, cond2_0 (grid2.coords t) ↔ t.val % 6 = 0 :=
  (fun t => by
    have ht : t.val < 48 := Nat.lt_of_lt_of_eq t.isLt N_2
    have e0 : (grid2.coords t 0).val = t.val / 24 % 2 := Pipeline.Grid.coords_val t 0 (by decide) rfl
    have e1 : (grid2.coords t 1).val = t.val / 6 % 4 := Pipeline.Grid.coords_val t 1 (by decide) rfl
    have e2 : (grid2.coords t 2).val = t.val / 1 % 6 := Pipeline.Grid.coords_val t 2 (by decide) rfl
    simp only [cond2_0, e0, e1, e2]
    word_cmp
   : ∀ t : Fin grid2.N, cond2_0 (grid2.coords t) ↔ t.val % 6 = 0)

/-- The condition of the body's `scf.if` 1 (`k2_h2`), from the grid coordinates (the skeleton's scalar
    chain substituted). -/
abbrev cond2_1 (i : grid2.Coords) : Prop := k2_cond2 i = 1#1
/-- It holds at the points ≡ 5 (mod 6) — by arithmetic of the point. -/
theorem hcond2_1 : ∀ t : Fin cfg2.N, cond2_1 (grid2.coords t) ↔ t.val % 6 = 5 :=
  (fun t => by
    have ht : t.val < 48 := Nat.lt_of_lt_of_eq t.isLt N_2
    have e0 : (grid2.coords t 0).val = t.val / 24 % 2 := Pipeline.Grid.coords_val t 0 (by decide) rfl
    have e1 : (grid2.coords t 1).val = t.val / 6 % 4 := Pipeline.Grid.coords_val t 1 (by decide) rfl
    have e2 : (grid2.coords t 2).val = t.val / 1 % 6 := Pipeline.Grid.coords_val t 2 (by decide) rfl
    simp only [cond2_1, k2_cond2, e0, e1, e2]
    word_cmp
   : ∀ t : Fin grid2.N, cond2_1 (grid2.coords t) ↔ t.val % 6 = 5)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- At the points of case A the printed configuration (`Cfg.idle`) calls output 5 idle: the case stores nothing into it. -/
theorem idleAt2_5_A : ∀ t : Fin cfg2.N, cond2_0 (grid2.coords t) → ¬cond2_1 (grid2.coords t) → cfg2.idle 5 (grid2.coords t) = true := by decide +kernel
/-- At the points of case A the pipeline does not write output 5's block back. -/
theorem noFlush2_5_A : ∀ t : Fin cfg2.N, cond2_0 (grid2.coords t) → ¬cond2_1 (grid2.coords t) → (cfg2.win 5).flush t = false := by decide +kernel
/-- At the points of case B the printed configuration (`Cfg.idle`) calls output 5 idle: the case stores nothing into it. -/
theorem idleAt2_5_B : ∀ t : Fin cfg2.N, ¬cond2_0 (grid2.coords t) → ¬cond2_1 (grid2.coords t) → cfg2.idle 5 (grid2.coords t) = true := by decide +kernel
/-- At the points of case B the pipeline does not write output 5's block back. -/
theorem noFlush2_5_B : ∀ t : Fin cfg2.N, ¬cond2_0 (grid2.coords t) → ¬cond2_1 (grid2.coords t) → (cfg2.win 5).flush t = false := by decide +kernel
/-- At the points of case C the printed configuration (`Cfg.idle`) calls output 5 live: the case stores into it. -/
theorem liveAt2_5_C : ∀ t : Fin cfg2.N, ¬cond2_0 (grid2.coords t) → cond2_1 (grid2.coords t) → cfg2.idle 5 (grid2.coords t) = false := by decide +kernel

/-! ## The kernel body on any staging memrefs: a subtype the run finds -/

/-- One staging buffer of output window 5, through which its contents are stated (`View.read_writes_of_cover`: the
    choice does not matter). -/
abbrev VO2_5 : View sig .tc .vmem S1408x1024 .f32 := (Memref.whole cc2_stg5_0 : Memref sig .tc .vmem S1408x1024 .f32).view
/-- Each window's current staging memref at point `t`, spelled as the pipeline passes it (`bodyAt2`), and its wholeness. -/
abbrev ms2_0 (t : Fin cfg2.N) : Memref sig .tc .vmem S1408x4096 .fp8e4m3 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1024 .fp8e5m2 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1408x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1408x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1408x1024 .f32 := win2_5.stage (cfg2.slots t 5)
abbrev hs2_5 (t : Fin cfg2.N) : (ms2_5 t).IsWhole := hstage2_5 ((cfg2.slots t 5).cast nbuf2_5)
/-- The scratch operands: whole scoped buffers of the kernel's own, passed beside the windows. -/
abbrev scM2_0 : Memref sig .tc .vmem S1408x1024 .f32 := Memref.whole cc2_scratch0
/-- The scratch `arg9` the kernel carries between points, as a view: what it holds is stated through it. -/
abbrev VS2_0 : View sig .tc .vmem S1408x1024 .f32 := scM2_0.view

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d)) ∗ (∃ r, prngReg c r)) := by
  unfold Pipeline.ΦA; rw [scopedRest2_eq]; simp only [scM2_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 6, … 42: 8 of 48), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) :
    Σ' (L5 : List (View.Piece (Elt F) S1408x1024 .f32)), { LS0 : List (View.Piece (Elt F) S1408x1024 .f32) //
      ∀ (xi5 : Vec F S1408x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2_wgrad i arg3 harg3 arg4 harg4 arg5 harg5 arg6 harg6 arg7 harg7 arg8 harg8 arg9 harg9) K } := by
  refine ⟨[], ?_, fun xi5 E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

/-- Case A stores nothing into output 5 (the window is idle at its points and not written back there):
    no pieces — a placeholder (junk read back) that nothing consults, since at these points the window is neither
    written back nor read at the next point (Lib/Pipeline.lean "Idle points"). -/
def out2_A_5 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) : Vec F S1408x1024 .f32 :=
  VO2_5.read (Elt F) (VO2_5.writes (Elt F) VO2_5.junk (kernelRun2_A c i arg3 harg3 arg4 harg4 arg5 harg5 arg6 harg6 arg7 harg7 arg8 harg8 arg9 harg9 hc0 hc1 x0 x1 x2 x3 x4).1)

/-- Case A's pieces for scratch `arg9`, which the kernel carries between points, cover it: 2 pieces of `S1408x1024` tiling it (Lib/Ring.lean `Piece.tiledL`). -/
theorem scover2_A_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (y : S1408x1024.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S1408x1024.size (by sl_kernel_rfl) y

/-- What case A leaves in scratch `arg9`: its pieces read back over junk. -/
def sout2_A_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) : Vec F S1408x1024 .f32 :=
  VS2_0.read (Elt F) (VS2_0.writes (Elt F) VS2_0.junk (kernelRun2_A c i arg3 harg3 arg4 harg4 arg5 harg5 arg6 harg6 arg7 harg7 arg8 harg8 arg9 harg9 hc0 hc1 x0 x1 x2 x3 x4).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 46: 32 of 48), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) :
    Σ' (L5 : List (View.Piece (Elt F) S1408x1024 .f32)), { LS0 : List (View.Piece (Elt F) S1408x1024 .f32) //
      ∀ (xi5 : Vec F S1408x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2_wgrad i arg3 harg3 arg4 harg4 arg5 harg5 arg6 harg6 arg7 harg7 arg8 harg8 arg9 harg9) K } := by
  refine ⟨[], ?_, fun xi5 E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

/-- Case B stores nothing into output 5 (the window is idle at its points and not written back there):
    no pieces — a placeholder (junk read back) that nothing consults, since at these points the window is neither
    written back nor read at the next point (Lib/Pipeline.lean "Idle points"). -/
def out2_B_5 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) : Vec F S1408x1024 .f32 :=
  VO2_5.read (Elt F) (VO2_5.writes (Elt F) VO2_5.junk (kernelRun2_B c i arg3 harg3 arg4 harg4 arg5 harg5 arg6 harg6 arg7 harg7 arg8 harg8 arg9 harg9 hc0 hc1 x0 x1 x2 x3 x4 xs0).1)

/-- Case B's pieces for scratch `arg9`, which the kernel carries between points, cover it: 1 piece of `S1408x1024` tiling it (Lib/Ring.lean `Piece.tiledL`). -/
theorem scover2_B_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) (y : S1408x1024.Idx) :
    ∃ pc ∈ (kernelRun2_B c i arg3 harg3 arg4 harg4 arg5 harg5 arg6 harg6 arg7 harg7 arg8 harg8 arg9 harg9 hc0 hc1 x0 x1 x2 x3 x4 xs0).2.1, y ∈ pc.1.set :=
  View.cover_of_tiledL (kernelRun2_B c i arg3 harg3 arg4 harg4 arg5 harg5 arg6 harg6 arg7 harg7 arg8 harg8 arg9 harg9 hc0 hc1 x0 x1 x2 x3 x4 xs0).2.1 S1408x1024.size (by sl_kernel_rfl) y

/-- What case B leaves in scratch `arg9`: its pieces read back over junk. -/
def sout2_B_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : ¬cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) : Vec F S1408x1024 .f32 :=
  VS2_0.read (Elt F) (VS2_0.writes (Elt F) VS2_0.junk (kernelRun2_B c i arg3 harg3 arg4 harg4 arg5 harg5 arg6 harg6 arg7 harg7 arg8 harg8 arg9 harg9 hc0 hc1 x0 x1 x2 x3 x4 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 5, 11, … 47: 8 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) :
    Σ' (L5 : List (View.Piece (Elt F) S1408x1024 .f32)), { LS0 : List (View.Piece (Elt F) S1408x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2_wgrad i arg3 harg3 arg4 harg4 arg5 harg5 arg6 harg6 arg7 harg7 arg8 harg8 arg9 harg9) K } := by
  refine ⟨?_, ?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

/-- Case C's pieces for output 5 tile its block (1 store of `S1408x1024`, checked by the kernel's evaluation: Lib/Ring.lean `Piece.tiledL`, linear in the pieces, through a loop's `@[irreducible]` trip theorem too), so they cover it. -/
theorem cover2_C_5 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) (y : S1408x1024.Idx) :
    ∃ pc ∈ (kernelRun2_C c i arg3 harg3 arg4 harg4 arg5 harg5 arg6 harg6 arg7 harg7 arg8 harg8 arg9 harg9 hc0 hc1 x0 x1 x2 x3 x4 xs0).1, y ∈ pc.1.set :=
  View.cover_of_tiledL (kernelRun2_C c i arg3 harg3 arg4 harg4 arg5 harg5 arg6 harg6 arg7 harg7 arg8 harg8 arg9 harg9 hc0 hc1 x0 x1 x2 x3 x4 xs0).1 S1408x1024.size (by sl_kernel_rfl) y

/-- What case C leaves in output 5's staging buffer: its pieces read back over junk. -/
def out2_C_5 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) : Vec F S1408x1024 .f32 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 x4 xs0).1)

/-- Case C's pieces for scratch `arg9`, which the kernel carries between points, cover it: 1 piece of `S1408x1024` tiling it (Lib/Ring.lean `Piece.tiledL`). -/
theorem scover2_C_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) (y : S1408x1024.Idx) :
    ∃ pc ∈ (kernelRun2_C c i arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 hc0 hc1 x0 x1 x2 x3 x4 xs0).2.1 S1408x1024.size (by sl_kernel_rfl) y

/-- What case C leaves in scratch `arg9`: its pieces read back over junk. -/
def sout2_C_0 (c : Dev nD) (i : grid2.Coords) (arg3 : Memref sig .tc .vmem S1408x4096 .fp8e4m3) (harg3 : arg3.IsWhole) (arg4 : Memref sig .tc .vmem S4096x1024 .fp8e5m2) (harg4 : arg4.IsWhole) (arg5 : Memref sig .tc .vmem S1408x1 .f32) (harg5 : arg5.IsWhole) (arg6 : Memref sig .tc .vmem S1x1024 .f32) (harg6 : arg6.IsWhole) (arg7 : Memref sig .tc .vmem S1408x1024 .f32) (harg7 : arg7.IsWhole) (arg8 : Memref sig .tc .vmem S1408x1024 .f32) (harg8 : arg8.IsWhole) (arg9 : Memref sig .tc .vmem S1408x1024 .f32) (harg9 : arg9.IsWhole) (hc0 : ¬cond2_0 i) (hc1 : cond2_1 i)
    (x0 : Vec F S1408x4096 .fp8e4m3) (x1 : Vec F S4096x1024 .fp8e5m2) (x2 : Vec F S1408x1 .f32) (x3 : Vec F S1x1024 .f32) (x4 : Vec F S1408x1024 .f32) (xs0 : Vec F S1408x1024 .f32) : Vec F S1408x1024 .f32 :=
  VS2_0.read (Elt F) (VS2_0.writes (Elt F) VS2_0.junk (kernelRun2_C c i arg3 harg3 arg4 harg4 arg5 harg5 arg6 harg6 arg7 harg7 arg8 harg8 arg9 harg9 hc0 hc1 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1408x1024 .f32 × Vec F S1408x1024 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 6 = 0 then
      if h1 : (n + 1) % 6 = 5 then
        False.elim (by have hN : n + 1 < 48 := lt_of_lt_of_eq hn (show cfg2.N = 48 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 6 = 5 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at a point of case A: that case's contents. -/
theorem outsAt2_A (c : Dev nD) (t : Fin cfg2.N) (h0 : t.val % 6 = 0) (h1 : ¬t.val % 6 = 5) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 6 = 0) (h1 : ¬t.val % 6 = 5) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 6 = 0) (h1 : t.val % 6 = 5) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS_r2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r))

theorem PhiS_zero_r2 (c : Dev nD) (n : ℕ) (h : n ≤ cfg2.N) (hz : n = 0) : PhiS_r2 V c n h = Pipeline.ΦA spec2 c := by
  subst hz; rfl

/-- After point `n` (before point `n + 1`): the carried scratch at that point's contents. -/
theorem PhiS_succ_r2 (c : Dev nD) (n : ℕ) (hn : n < cfg2.N) :
    PhiS_r2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c n hn).2)) ∗ (∃ r, prngReg c r)) := rfl

/-- Before a point that is not the first: the carried scratch at what the point before left. -/
theorem PhiS_pos_r2 (c : Dev nD) (n : ℕ) (h : n ≤ cfg2.N) (hz : n ≠ 0) :
    PhiS_r2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS_r2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS_r2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS_castSucc_r2 (c : Dev nD) (t : Fin cfg2.N) :
    (dat2 V c).Φ t.castSucc = PhiS_r2 V c t.val (Nat.le_of_lt t.isLt) := by
  dsimp only [dat2]; exact Pipeline.Dat.Φ_castSucc (PhiS_r2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks (`before2_W`); the closed forms say which case the point is in (`by_cases`), an output the case reads before covering holds what the point before left (`before2_W_κ`); so the
    run applies; the invariant hands the body the carried scratch at what the point before left (`PhiS_pos_r2`; at anything at the first point, `PhiS_zero_r2`), the other scratch buffers and the generator register at some state, and takes the carried scratch back at this point's contents (`PhiS_succ_r2`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS_r2 V c (t.val + 1) t.isLt from rfl, PhiS_succ_r2]
  have hN : t.val < 48 := lt_of_lt_of_eq t.isLt (show cfg2.N = 48 from N_2)
  by_cases h0 : t.val % 6 = 0
  · by_cases h1 : t.val % 6 = 5
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      by_cases hz : t.val = 0
      · rw [PhiS_castSucc_r2 V c t, PhiS_zero_r2 V c _ _ hz, PhiA2_eq]
        rw [outsAt2_A V c t h0 h1]
        unfold sout2_A_0; (try dsimp only)
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc_r2 V c t, PhiS_pos_r2 V c _ _ hz]
        rw [outsAt2_A V c t h0 h1]
        unfold sout2_A_0; (try dsimp only)
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 6 = 5
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5_C t (fun h => h0 ((hcond2_0 t).mp h)) ((hcond2_1 t).mpr h1)], after2_5]
      by_cases hz : t.val = 0
      · exfalso; have hN : t.val < 48 := lt_of_lt_of_eq t.isLt (show cfg2.N = 48 from N_2); omega
      · rw [PhiS_castSucc_r2 V c t, PhiS_pos_r2 V c _ _ hz]
        rw [outsAt2_C V c t h0 h1]
        unfold out2_C_5 sout2_C_0; (try dsimp only)
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            unfold owns; iexists _; isplitr
            swap; · iexact HS0
            ipureintro; exact View.read_writes_of_cover _ _ _ _ _ (scover2_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      by_cases hz : t.val = 0
      · exfalso; have hN : t.val < 48 := lt_of_lt_of_eq t.isLt (show cfg2.N = 48 from N_2); omega
      · rw [PhiS_castSucc_r2 V c t, PhiS_pos_r2 V c _ _ hz]
        rw [outsAt2_B V c t h0 h1]
        unfold sout2_B_0; (try dsimp only)
        iintro ⟨⟨⟨HR0, HR1, HR2, HR3, HR4, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HS0 Hg]
        · isplitl [HR0 HR1 HR2 HR3 HR4 HR5 HR6 HR7 HR8 HR9 HR10 HR11 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            unfold owns; iexists _; isplitr
            swap; · iexact HS0
            ipureintro; exact View.read_writes_of_cover _ _ _ _ _ (scover2_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin_r2 (c : Dev nD) : Pipeline.ΦA spec2 c ⊢ (dat2 V c).Φ 0 := by
  rw [show (dat2 V c).Φ 0 = PhiS_r2 V c 0 (Nat.zero_le _) from rfl, PhiS_zero_r2 V c 0 _ rfl]
  try exact Idealize.SL.BI.Entails.refl _

/-- After any point but the first the invariant gives `ΦA` back: the carried scratch's named contents are forgotten. -/
theorem Phi_out_r2 (c : Dev nD) (t : Fin (cfg2.N + 1)) (ht : t.val ≠ 0) : (dat2 V c).Φ t ⊢ Pipeline.ΦA spec2 c := by
  rw [show (dat2 V c).Φ t = PhiS_r2 V c t.val (Nat.le_of_lt_succ t.isLt) from rfl, PhiS_pos_r2 V c _ _ ht, PhiA2_eq]
  iintro ⟨⟨HR0, HR1, HR2, HR3, HR4, HR5, HR6, HR7, HR8, HR9, HR10, HR11, HS0⟩, Hg⟩
  isplitl [HR0 HR1 HR2 HR3 HR4 HR5 HR6 HR7 HR8 HR9 HR10 HR11 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    iexists _; iexact HS0
  iexact Hg

/-- The same after the last point. -/
theorem hout_r2 (c : Dev nD) : (dat2 V c).Φ (Fin.last cfg2.N) ⊢ Pipeline.ΦA spec2 c :=
  Phi_out_r2 V c _ (by rw [Fin.val_last]; have : cfg2.N = 48 := N_2; omega)

end Regions

end Cert.KernelIdeal.Gen

end
-- ==== Proof.KernelIdeal.Hosts0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v7, main_v8]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Gen

end
-- ==== Proof.KernelIdeal.Fold0.lean ====
module

public import proofs.«01_k».proof.Proof.KernelIdeal.Region0
public import proofs.«01_k».proof.Proof.KernelIdeal.Region1
public import proofs.«01_k».proof.Proof.KernelIdeal.Region2
public import proofs.«01_k».proof.Proof.KernelIdeal.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
end Cert.KernelIdeal.Gen

end
-- ==== Proof.KernelIdeal.State.lean ====
module

public import proofs.«01_k».proof.Proof.KernelIdeal.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

end Cert.KernelIdeal.Gen

end
-- ==== Proof.KernelIdeal.Record0.lean ====
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin_r0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last _) from rfl]
    iintro HΦ
    ihave H := (hout_r0 (V1 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record1.lean ====
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record2.lean ====
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V4 m ρ) c).Φ 0 from rfl]
    iintro ⟨Hp, -, Hr⟩
    iapply (hin_r2 (V4 m ρ) c)
    unfold Pipeline.ΦA
    isplitl [Hr]; · iexact Hr
    iexact Hp
  hout c := by
    rw [Pipeline.ownSems0_none, show (pdats m ρ 2 c).Φ (Fin.last _) = (dat2 (V4 m ρ) c).Φ (Fin.last _) from rfl]
    iintro HΦ
    ihave H := (hout_r2 (V4 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Frame.lean ====
module

public import proofs.«01_k».proof.Proof.KernelIdeal.Record0
public import proofs.«01_k».proof.Proof.KernelIdeal.Record1
public import proofs.«01_k».proof.Proof.KernelIdeal.Record2

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W6_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Gen

end
-- ==== Proof.KernelIdeal.Contents.lean ====
/- The kernel's run with the contents of every array of the host at the end. -/
module

public import proofs.«01_k».proof.Proof.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array of the host at the contents the fold over the program's steps gives. -/
theorem run_contents : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W6 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c b hb => h c _ (mem_uc b hb))

end Cert.KernelIdeal.Gen

end
-- ==== Proof.Exponent.lean ====
/- The arithmetic of one channel's power-of-two scale. The kernel finds the biased exponent of `r = amax / 448` by eight
   halving steps, each comparing `r` with the float whose bit pattern has that exponent and no fraction; it then assembles
   the scale and its inverse from their bit patterns. The reference takes the floor of the base-2 logarithm of `r` and
   exponentiates. Over the reals the two agree wherever `r` is zero or lies in `[2^-126, 2^126)`. -/
module

public import Idealize.ShloMosaic.Lib.Pipeline.ValueKit
public import Mathlib.Analysis.SpecialFunctions.Log.Basic
public import Mathlib.Analysis.SpecialFunctions.Pow.Real

@[expose] public section

set_option maxRecDepth 16384

noncomputable section

namespace Cert.Exponent

open Idealize.ShloMosaic

/-- The extended real of the bit pattern with biased exponent `n` and zero fraction. -/
def pw (n : ℕ) : EReal := Ideal.ofBits .f32 (BitVec.ofNat 32 n <<< 23)

/-- The fields of such a pattern. -/
theorem fields : ∀ n : Fin 256, ((BitVec.ofNat 32 n.val <<< 23).extractLsb' 23 8).toNat = n.val
    ∧ ((BitVec.ofNat 32 n.val <<< 23).extractLsb' 0 23).toNat = 0
    ∧ ((BitVec.ofNat 32 n.val <<< 23).extractLsb' 31 1 == 1#1) = false := by decide +kernel

theorem pw_zero : pw 0 = 0 := by simp [pw, Ideal.ofBits, Ideal.ieee]

theorem pw_top : pw 255 = ⊤ := by
  obtain ⟨h1, h2, h3⟩ := fields 255
  simp only [Fin.isValue, Fin.reduceFinMk, show ((255 : Fin 256).val) = 255 from rfl] at h1 h2 h3
  unfold pw Ideal.ofBits Ideal.ieee
  simp only [h1, h2, h3]
  norm_num

/-- At a normal exponent the pattern is the power of two. -/
theorem pw_eq (n : ℕ) (h1 : 1 ≤ n) (h2 : n ≤ 254) : pw n = (((2 : ℝ) ^ ((n : ℤ) - 127) : ℝ) : EReal) := by
  obtain ⟨f1, f2, f3⟩ := fields ⟨n, by omega⟩
  simp only at f1 f2 f3
  unfold pw Ideal.ofBits Ideal.ieee
  simp only [f1, f2, f3]
  rw [if_neg (by norm_num; omega), if_neg (by omega)]
  have h : ((n : ℤ) - 127) = ((23 : ℕ) : ℤ) + ((n : ℤ) - (2 ^ (8 - 1) - 1) - ((23 : ℕ) : ℤ)) := by norm_num
  rw [h, zpow_add₀ (by norm_num : (2 : ℝ) ≠ 0), zpow_natCast]
  refine congrArg (fun x : ℝ => (x : EReal)) ?_
  refine congrArg (· * _) ?_
  rw [Nat.add_zero, if_neg (by decide), one_mul, Nat.cast_pow, Nat.cast_ofNat]

theorem pw_pos (n : ℕ) (h1 : 1 ≤ n) (h2 : n ≤ 255) : 0 < pw n := by
  rcases Nat.lt_or_ge n 255 with h | h
  · rw [pw_eq n h1 (by omega)]
    exact_mod_cast zpow_pos (by norm_num : (0 : ℝ) < 2) _
  · rw [show n = 255 by omega, pw_top]; exact EReal.zero_lt_top

/-- One halving step: keep `b + s` when `r` reaches the power of two with that biased exponent. -/
def bstep (r : EReal) (b s : BitVec 32) : BitVec 32 :=
  Scalar.select (Ideal.cmp .oge r (Ideal.ofBits .f32 (IntOp.shli .vector (IntOp.addi b s) 23#32))) (IntOp.addi b s) b

/-- The biased exponent, by eight halving steps. -/
def bisect (r : EReal) : BitVec 32 :=
  bstep r (bstep r (bstep r (bstep r (bstep r (bstep r (bstep r (bstep r 0#32 128#32) 64#32) 32#32) 16#32) 8#32) 4#32) 2#32) 1#32

/-- The exponent from the biased one: the bias less one removed; zero for the two exponents of no normal number. -/
def unbias (b : BitVec 32) : BitVec 32 :=
  Scalar.select (IntOp.ori (IntOp.cmpi .eq b 0#32) (IntOp.cmpi .eq b 255#32)) 0#32 (IntOp.subi b 126#32)

theorem shli_23 (x : BitVec 32) : IntOp.shli .vector x 23#32 = x <<< 23 := by
  unfold IntOp.shli
  rw [if_pos (by decide)]
  rfl

theorem bstep_eq (r : EReal) (k : ℕ) (hk : ∀ n, n ≤ 255 → (pw n ≤ r ↔ n ≤ k)) (n s : ℕ) (h : n + s ≤ 255) :
    bstep r (BitVec.ofNat 32 n) (BitVec.ofNat 32 s) = BitVec.ofNat 32 (if n + s ≤ k then n + s else n) := by
  unfold bstep
  rw [shli_23, show IntOp.addi (BitVec.ofNat 32 n) (BitVec.ofNat 32 s) = BitVec.ofNat 32 (n + s) from
    (BitVec.ofNat_add n s).symm]
  have e : Ideal.cmp .oge r (Ideal.ofBits .f32 (BitVec.ofNat 32 (n + s) <<< 23)) = BitVec.ofBool (decide (n + s ≤ k)) := by
    unfold Ideal.cmp
    congr 1
    exact decide_eq_decide.mpr (hk (n + s) h)
  rw [e]
  by_cases hc : n + s ≤ k <;> simp [hc, Scalar.select]

theorem bstep_inv (r : EReal) (k : ℕ) (hk : ∀ n, n ≤ 255 → (pw n ≤ r ↔ n ≤ k)) (b : BitVec 32) (s : ℕ) (hs : 1 ≤ s)
    (hb : ∃ n, b = BitVec.ofNat 32 n ∧ n ≤ k ∧ k < n + 2 * s ∧ n + 2 * s ≤ 256) :
    ∃ n, bstep r b (BitVec.ofNat 32 s) = BitVec.ofNat 32 n ∧ n ≤ k ∧ k < n + s ∧ n + s ≤ 256 := by
  obtain ⟨n, rfl, h1, h2, h3⟩ := hb
  refine ⟨_, bstep_eq r k hk n s (by omega), ?_⟩
  split <;> omega

/-- The eight steps end at the greatest biased exponent whose power of two `r` reaches. -/
theorem bisect_eq (r : EReal) (k : ℕ) (h255 : k ≤ 255) (hk : ∀ n, n ≤ 255 → (pw n ≤ r ↔ n ≤ k)) :
    bisect r = BitVec.ofNat 32 k := by
  have h0 : ∃ n, (0#32) = BitVec.ofNat 32 n ∧ n ≤ k ∧ k < n + 2 * 128 ∧ n + 2 * 128 ≤ 256 := ⟨0, rfl, by omega, by omega, by omega⟩
  have h1 := bstep_inv r k hk _ 128 (by omega) h0
  have h2 := bstep_inv r k hk _ 64 (by omega) h1
  have h3 := bstep_inv r k hk _ 32 (by omega) h2
  have h4 := bstep_inv r k hk _ 16 (by omega) h3
  have h5 := bstep_inv r k hk _ 8 (by omega) h4
  have h6 := bstep_inv r k hk _ 4 (by omega) h5
  have h7 := bstep_inv r k hk _ 2 (by omega) h6
  obtain ⟨n, e, a, b, -⟩ := bstep_inv r k hk _ 1 (by omega) h7
  unfold bisect
  rw [show k = n by omega]
  exact e

/-- The reference's exponent: one more than the floor of the base-2 logarithm, zero at zero. -/
def refExp (r : EReal) : EReal :=
  if r = 0 then 0 else Ideal.liftRound Int.floor (Ideal.div (Ideal.log r) ((Real.log 2 : ℝ) : EReal)) + 1

/-- The floor of the base-2 logarithm. -/
def ilog (r : ℝ) : ℤ := ⌊Real.log r * (1 / Real.log 2)⌋

/-- A power of two is at most `r` exactly when its exponent is at most the floor of the logarithm. -/
theorem zpow_le_iff (r : ℝ) (hr : 0 < r) (z : ℤ) : (2 : ℝ) ^ z ≤ r ↔ z ≤ ilog r := by
  have hl : 0 < Real.log 2 := Real.log_pos (by norm_num)
  unfold ilog
  rw [Int.le_floor, mul_one_div, le_div_iff₀ hl, ← Real.log_zpow, Real.log_le_log_iff (zpow_pos (by norm_num) _) hr]

/-- At a positive real the reference's exponent is one more than that floor. -/
theorem refExp_coe (r : ℝ) (hr : 0 < r) : refExp (r : EReal) = (((ilog r + 1 : ℤ) : ℝ) : EReal) := by
  have hl : Real.log 2 ≠ 0 := Real.log_ne_zero_of_pos_of_ne_one (by norm_num) (by norm_num)
  unfold refExp
  rw [if_neg (by exact_mod_cast hr.ne'), Ideal.log_coe, if_neg (not_le.mpr hr), Ideal.div_coe hl, ← EReal.coe_mul]
  show ((ilog r : ℝ) : EReal) + 1 = _
  push_cast
  rfl

theorem exp2_int (z : ℤ) : Ideal.exp2 (((z : ℝ)) : EReal) = (((2 : ℝ) ^ z : ℝ) : EReal) := by
  rw [Ideal.exp2_coe]
  congr 1
  exact Real.rpow_intCast 2 z

/-- Which powers of two `r` reaches, and what the reference's exponent is then. -/
theorem exists_biased (r : EReal) (h : r = 0 ∨ pw 1 ≤ r ∧ r < pw 253) :
    ∃ k : ℕ, k ≤ 252 ∧ (∀ n, n ≤ 255 → (pw n ≤ r ↔ n ≤ k))
      ∧ refExp r = ((((if k = 0 then 0 else (k : ℤ) - 126 : ℤ)) : ℝ) : EReal) := by
  rcases h with rfl | ⟨hlo, hhi⟩
  · refine ⟨0, by omega, fun n hn => ?_, ?_⟩
    · rcases Nat.eq_zero_or_pos n with rfl | hp
      · simp [pw_zero]
      · constructor
        · intro h; exact absurd h (not_le.mpr (pw_pos n hp hn))
        · intro h; omega
    · simp [refExp]
  · rw [pw_eq 1 (by omega) (by omega)] at hlo
    rw [pw_eq 253 (by omega) (by omega)] at hhi
    have hnt : r ≠ ⊤ := hhi.ne_top
    have hnb : r ≠ ⊥ := by rintro rfl; exact absurd hlo (by simp)
    lift r to ℝ using ⟨hnt, hnb⟩
    have hlo' : (2 : ℝ) ^ (((1 : ℕ) : ℤ) - 127) ≤ r := by exact_mod_cast hlo
    have hhi' : r < (2 : ℝ) ^ (((253 : ℕ) : ℤ) - 127) := by exact_mod_cast hhi
    have hr : 0 < r := lt_of_lt_of_le (zpow_pos (by norm_num) _) hlo'
    have hz := zpow_le_iff r hr
    have l1 : -126 ≤ ilog r := (hz (-126)).mp (by simpa using hlo')
    have l2 : ilog r < 126 := by
      by_contra hc
      exact absurd ((hz 126).mpr (by omega)) (not_le.mpr (by simpa using hhi'))
    refine ⟨(ilog r + 127).toNat, by omega, fun n hn => ?_, ?_⟩
    · rcases Nat.eq_zero_or_pos n with rfl | hp
      · rw [pw_zero]; constructor
        · intro _; omega
        · intro _; exact_mod_cast hr.le
      · rcases Nat.lt_or_ge n 255 with h | h
        · rw [pw_eq n hp (by omega), EReal.coe_le_coe_iff, hz]; omega
        · rw [show n = 255 by omega, pw_top]
          constructor
          · intro h; exact absurd h (by simp)
          · intro h; omega
    · rw [refExp_coe r hr, if_neg (by omega)]
      congr 3
      omega

/-- The kernel's scale is two to the reference's exponent. -/
theorem scale_eq (r : EReal) (h : r = 0 ∨ pw 1 ≤ r ∧ r < pw 253) :
    Ideal.ofBits .f32 (IntOp.shli .vector (IntOp.addi 127#32 (unbias (bisect r))) 23#32) = Ideal.exp2 (refExp r) := by
  obtain ⟨k, hk, hp, he⟩ := exists_biased r h
  rw [bisect_eq r k (by omega) hp, he, exp2_int, shli_23]
  have e : IntOp.addi 127#32 (unbias (BitVec.ofNat 32 k)) = BitVec.ofNat 32 (if k = 0 then 127 else k + 1) := by
    have : ∀ k : Fin 253, IntOp.addi 127#32 (unbias (BitVec.ofNat 32 k.val)) = BitVec.ofNat 32 (if k.val = 0 then 127 else k.val + 1) := by
      decide +kernel
    exact this ⟨k, by omega⟩
  rw [e]
  show pw _ = _
  rcases Nat.eq_zero_or_pos k with rfl | hk0
  · rw [if_pos rfl, if_pos rfl, pw_eq 127 (by omega) (by omega)]; norm_num
  · rw [if_neg (by omega), if_neg (by omega), pw_eq _ (by omega) (by omega)]
    congr 2; push_cast; ring

/-- The kernel's inverse scale is two to minus the reference's exponent. -/
theorem inv_eq (r : EReal) (h : r = 0 ∨ pw 1 ≤ r ∧ r < pw 253) :
    Ideal.ofBits .f32 (IntOp.shli .vector (IntOp.subi 127#32 (unbias (bisect r))) 23#32) = Ideal.exp2 (0 - refExp r) := by
  obtain ⟨k, hk, hp, he⟩ := exists_biased r h
  rw [bisect_eq r k (by omega) hp, he, zero_sub, ← EReal.coe_neg, ← Int.cast_neg, exp2_int, shli_23]
  have e : IntOp.subi 127#32 (unbias (BitVec.ofNat 32 k)) = BitVec.ofNat 32 (if k = 0 then 127 else 253 - k) := by
    have : ∀ k : Fin 253, IntOp.subi 127#32 (unbias (BitVec.ofNat 32 k.val)) = BitVec.ofNat 32 (if k.val = 0 then 127 else 253 - k.val) := by
      decide +kernel
    exact this ⟨k, by omega⟩
  rw [e]
  show pw _ = _
  rcases Nat.eq_zero_or_pos k with rfl | hk0
  · rw [if_pos rfl, if_pos rfl, pw_eq 127 (by omega) (by omega)]; norm_num
  · rw [if_neg (by omega), if_neg (by omega), pw_eq _ (by omega) (by omega)]
    congr 2; omega

end Cert.Exponent

end
-- ==== Proof.Spec.lean ====
/- What the computation does, entry by entry, over the extended reals: per column of the input the largest absolute
   value, a power-of-two scale and its inverse from it; the codes; and the product with the other factor, scaled and
   added to the gradient. -/
module

public import proofs.«01_k».proof.Proof.Exponent

@[expose] public section

noncomputable section

namespace Cert.Spec

open Idealize.ShloMosaic

/-- The input and the other factor, rows by columns; the column scales of the other factor; the gradient. -/
abbrev SX : Shape := ⟨2, ![24576, 2816]⟩
abbrev SY : Shape := ⟨2, ![24576, 4096]⟩
abbrev SYs : Shape := ⟨2, ![1, 4096]⟩
abbrev SG : Shape := ⟨2, ![2816, 4096]⟩

/-- The absolute value of an extended real. -/
abbrev abs' (x : EReal) : EReal := max x (-x)

/-- The constant 1/448, as rounded to 32 bits. -/
abbrev c448 : EReal := Ideal.ofBits .f32 991054117#32

/-- The largest absolute value of column `d`. -/
def amaxOf (X : FVec Ideal SX .bf16) (d : Fin 2816) : EReal :=
  Finset.univ.fold max ⊥ fun r : Fin 24576 => abs' (X (ix2 r d))

theorem abs'_nonneg (x : EReal) : 0 ≤ abs' x := by
  rcases le_total 0 x with h | h
  · exact le_max_of_le_left h
  · exact le_max_of_le_right (by simpa using EReal.neg_le_neg_iff.mpr h)

theorem amaxOf_le (X : FVec Ideal SX .bf16) (d : Fin 2816) (z : EReal) :
    amaxOf X d ≤ z ↔ ∀ r : Fin 24576, abs' (X (ix2 r d)) ≤ z := by
  unfold amaxOf
  rw [Finset.fold_max_le]
  simp

/-- The scaled largest absolute value of a column. -/
abbrev ratio (X : FVec Ideal SX .bf16) (d : Fin 2816) : EReal := amaxOf X d * c448

/-- Every column is all zero or its scaled largest absolute value is a normal number below `2^126`. -/
def InRange (X : FVec Ideal SX .bf16) : Prop :=
  ∀ d : Fin 2816, ratio X d = 0 ∨ Exponent.pw 1 ≤ ratio X d ∧ ratio X d < Exponent.pw 253

/-- The scale of column `d`: the power of two above the scaled largest absolute value. -/
def scaleOf (X : FVec Ideal SX .bf16) (d : Fin 2816) : EReal := Ideal.exp2 (Exponent.refExp (ratio X d))

/-- The inverse scale of column `d`. -/
def invOf (X : FVec Ideal SX .bf16) (d : Fin 2816) : EReal := Ideal.exp2 (0 - Exponent.refExp (ratio X d))

/-- One code: the entry times the inverse scale, clipped. -/
def code (x i : EReal) : EReal :=
  min (Ideal.ofBits .f32 0x43E00000#32) (max (Ideal.ofBits .f32 0xC3E00000#32) (x * i))

/-- The code of row `l`, column `d`. -/
def codeOf (X : FVec Ideal SX .bf16) (l : Fin 24576) (d : Fin 2816) : EReal := code (X (ix2 l d)) (invOf X d)

/-- The entry of the result: the gradient plus the scaled product of the codes with the other factor. -/
def outOf (X : FVec Ideal SX .bf16) (Y : FVec Ideal SY .fp8e5m2) (YS : FVec Ideal SYs .f32) (MG : FVec Ideal SG .f32)
    (i : Fin 2816) (j : Fin 4096) : EReal :=
  MG (ix2 i j) + (∑ l : Fin 24576, codeOf X l i * Y (ix2 l j)) * (scaleOf X i * YS (ix2 0 j))

end Cert.Spec

end
-- ==== Proof.AmaxValue.lean ====
/- The first call: what its two outputs hold. Per column, the running maximum over 24 blocks of rows is kept in sixteen
   partial maxima (rows by their remainder modulo 16); at the last block they are joined, scaled by 1/448 and turned
   into a power of two and its inverse. -/
module

public import proofs.«01_k».proof.Proof.KernelIdeal.Region0
public import proofs.«01_k».proof.Proof.Spec
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Cert.Spec
open Idealize.ShloMosaic Idealize.ShloMosaic.TcCoe Idealize.SL.Sem
open Idealize.ShloMosaic.Pipeline (Dat)

theorem bot_bf16 : Ideal.ofBits .bf16 65408#16 = ⊥ := by
  simp [Ideal.ofBits, Ideal.ieee]

theorem bot_f32 : Ideal.ofBits .f32 4286578688#32 = ⊥ := by
  simp [Ideal.ofBits, Ideal.ieee]

/-- The scratch starts at zero. -/
theorem pay1_at (j) : k0_pay1 (F := Ideal) j = 0 := by pointwise [k0_pay1]

/-- One block's step: the partial maximum `a` of column `d` takes in the block's rows of remainder `a`. -/
theorem pay2_le (x : FVec Ideal S1024x2816 .bf16) (s : FVec Ideal S16x2816 .bf16) (a : Fin 16) (d : Fin 2816) (z : EReal) :
    k0_pay2 (F := Ideal) x s (ix2 a d) ≤ z ↔ s (ix2 a d) ≤ z ∧ ∀ k : Fin 64, abs' (x (ix2 ⟨k.val * 16 + a.val, by omega⟩ d)) ≤ z := by
  pointwise [k0_pay2]
  rw [bot_bf16]
  rw [max_le_iff, Finset.fold_max_le]
  simp only [bot_le, true_and, Finset.mem_univ, forall_true_left]
  rfl

/-- The join of the sixteen partial maxima, times 1/448. -/
theorem pay3_at (s : FVec Ideal S16x2816 .bf16) (d : Fin 2816) :
    k0_pay3 (F := Ideal) s (ix2 0 d) = Finset.univ.fold max ⊥ (fun a : Fin 16 => s (ix2 a d)) * c448 := by
  pointwise [k0_pay3]
  rw [bot_f32]

/-- One halving step on all columns at once. -/
def vstep (r : FVec Ideal S1x2816 .f32) (b : IVec S1x2816 32) (s : BitVec 32) : IVec S1x2816 32 :=
  select (cmpf .oge r (bitcastToFloat .f32 (shli (addi b (broadcast S1x2816 s)) (broadcast S1x2816 23#32))))
    (addi b (broadcast S1x2816 s)) b

theorem vstep_at (r : FVec Ideal S1x2816 .f32) (b : IVec S1x2816 32) (s : BitVec 32) (j : S1x2816.Idx) :
    vstep r b s j = Exponent.bstep (r j) (b j) s := rfl

/-- The first five halving steps. -/
theorem pay4_eq (s : FVec Ideal S16x2816 .bf16) : k0_pay4 (F := Ideal) s
    = vstep (k0_pay3 s) (vstep (k0_pay3 s) (vstep (k0_pay3 s) (vstep (k0_pay3 s) (vstep (k0_pay3 s)
        (broadcast S1x2816 0#32) 128#32) 64#32) 32#32) 16#32) 8#32 := by
  unfold k0_pay4
  generalize k0_pay3 (F := Ideal) s = r
  rfl

/-- The unbiased exponent on all columns at once. -/
def vunbias (b : IVec S1x2816 32) : IVec S1x2816 32 :=
  select (ori (cmpi .eq b (broadcast S1x2816 0#32)) (cmpi .eq b (broadcast S1x2816 255#32))) (broadcast S1x2816 0#32)
    (subi b (broadcast S1x2816 126#32))

theorem vunbias_at (b : IVec S1x2816 32) (j : S1x2816.Idx) : vunbias b j = Exponent.unbias (b j) := rfl

/-- The last three halving steps and the removal of the bias. -/
theorem pay6_eq (r : FVec Ideal S1x2816 .f32) (b : IVec S1x2816 32) :
    k0_pay6 (F := Ideal) r b (addi b (broadcast S1x2816 4#32))
      = vunbias (vstep r (vstep r (vstep r b 4#32) 2#32) 1#32) := by
  unfold k0_pay6
  rfl

/-- The exponent of every column. -/
theorem pay6_at (s : FVec Ideal S16x2816 .bf16) (j : S1x2816.Idx) :
    k0_pay6 (F := Ideal) (k0_pay3 s) (k0_pay4 (F := Ideal) s) (k0_pay5 (F := Ideal) s) j
      = Exponent.unbias (Exponent.bisect (k0_pay3 (F := Ideal) s j)) := by
  unfold k0_pay5
  rw [pay6_eq, pay4_eq]
  simp only [vunbias_at, vstep_at]
  rfl

/-- The scale's bit pattern, from the biased exponent found by halving. -/
theorem pay7_at (s : FVec Ideal S16x2816 .bf16) (j : S1x2816.Idx) :
    k0_pay7 (F := Ideal) (k0_pay3 s) (k0_pay4 (F := Ideal) s) (k0_pay5 (F := Ideal) s) j
      = Ideal.ofBits .f32 (IntOp.shli .vector (IntOp.addi 127#32 (Exponent.unbias (Exponent.bisect (k0_pay3 (F := Ideal) s j)))) 23#32) := by
  rw [← pay6_at]
  unfold k0_pay7
  rfl

/-- The inverse scale's bit pattern. -/
theorem pay8_at (s : FVec Ideal S16x2816 .bf16) (j : S1x2816.Idx) :
    k0_pay8 (F := Ideal) (k0_pay3 s) (k0_pay4 (F := Ideal) s) (k0_pay5 (F := Ideal) s) j
      = Ideal.ofBits .f32 (IntOp.shli .vector (IntOp.subi 127#32 (Exponent.unbias (Exponent.bisect (k0_pay3 (F := Ideal) s j)))) 23#32) := by
  rw [← pay6_at]
  unfold k0_pay8
  rfl

variable (V : (c : Dev nD) → (b : Ref sig .tc) → Buf (Elt Ideal) ((c : Thread nD τ).loc b))

/-- The windows' block indices at each point of the grid. -/
theorem idx0 : ∀ t : Fin cfg0.N, win0_0.index t = ![t.val, 0] ∧ win0_1.index t = ![0, 0] ∧ win0_2.index t = ![0, 0] :=
  (by decide +kernel : ∀ t : Fin grid0.N, _)

/-- The input, rows by columns. -/
abbrev X0 (c : Dev nD) : FVec Ideal S24576x2816 .bf16 := V c main_v0

/-- A block's row is the array's row at the block's offset. -/
theorem iblk0_at (c : Dev nD) (t : Fin cfg0.N) (i : Fin 1024) (d : Fin 2816) :
    (iblk0 V c 0 t : FVec Ideal S1024x2816 .bf16) (ix2 i d)
      = X0 V c (ix2 ⟨t.val * 1024 + i.val, by have := lt_of_lt_of_eq t.isLt N_0; omega⟩ d) := by
  blk_ext [iblk0, idx0 t]

/-- One block's step, in the array's rows. -/
theorem step_le (c : Dev nD) (t : Fin cfg0.N) (s : FVec Ideal S16x2816 .bf16) (a : Fin 16) (d : Fin 2816) (z : EReal) :
    k0_pay2 (F := Ideal) (iblk0 V c 0 t) s (ix2 a d) ≤ z
      ↔ s (ix2 a d) ≤ z ∧ ∀ r : Fin 24576, 1024 * t.val ≤ r.val → r.val < 1024 * (t.val + 1) → r.val % 16 = a.val →
          abs' (X0 V c (ix2 r d)) ≤ z := by
  have ht := lt_of_lt_of_eq t.isLt N_0
  rw [pay2_le]
  refine and_congr_right fun _ => ⟨fun h r h1 h2 h3 => ?_, fun h k => ?_⟩
  · have hk := h ⟨(r.val - 1024 * t.val) / 16, by omega⟩
    rw [iblk0_at] at hk
    rwa [show r = ⟨t.val * 1024 + ((r.val - 1024 * t.val) / 16 * 16 + a.val), by omega⟩ from Fin.ext (by dsimp only; omega)]
  · rw [iblk0_at]
    exact h _ (by dsimp only; omega) (by dsimp only; omega) (by dsimp only; omega)

/-- What the partial maxima hold after each block. -/
theorem scratch_le (c : Dev nD) : ∀ (n : ℕ) (hn : n < cfg0.N) (a : Fin 16) (d : Fin 2816) (z : EReal),
    (outsAt0 V c n hn).2.2 (ix2 a d) ≤ z
      ↔ 0 ≤ z ∧ ∀ r : Fin 24576, r.val < 1024 * (n + 1) → r.val % 16 = a.val → abs' (X0 V c (ix2 r d)) ≤ z
  | 0, hn, a, d, z => by
    rw [outsAt0_A V c ⟨0, hn⟩ (Nat.zero_mod _) (fun h => by dsimp only at h; omega)]
    frame_out
    rw [step_le, pay1_at]
    refine and_congr_right fun _ => ⟨fun h r h1 h2 => h r (by dsimp only; omega) h1 h2, fun h r _ h1 h2 => h r h1 h2⟩
  | n + 1, hn, a, d, z => by
    have hN := lt_of_lt_of_eq hn N_0
    have ih := scratch_le c n (Nat.lt_of_succ_lt hn) a d z
    have key : (outsAt0 V c n (Nat.lt_of_succ_lt hn)).2.2 (ix2 a d) ≤ z ∧ (∀ r : Fin 24576, 1024 * (n + 1) ≤ r.val → r.val < 1024 * (n + 1 + 1) → r.val % 16 = a.val →
          abs' (X0 V c (ix2 r d)) ≤ z) ↔ 0 ≤ z ∧ ∀ r : Fin 24576, r.val < 1024 * (n + 1 + 1) → r.val % 16 = a.val → abs' (X0 V c (ix2 r d)) ≤ z := by
      rw [ih]
      refine ⟨fun h => ⟨h.1.1, fun r h1 h2 => ?_⟩, fun h => ⟨⟨h.1, fun r h1 h2 => h.2 r (by omega) h2⟩, fun r _ h1 h2 => h.2 r h1 h2⟩⟩
      rcases Nat.lt_or_ge r.val (1024 * (n + 1)) with hr | hr
      · exact h.1.2 r hr h2
      · exact h.2 r hr h1 h2
    rw [← key]
    by_cases h1 : (n + 1) % 24 = 23
    · rw [outsAt0_C V c ⟨n + 1, hn⟩ (by dsimp only; omega) h1]
      frame_out
      rw [read_unread_whole]
      exact step_le V c ⟨n + 1, hn⟩ _ a d z
    · rw [outsAt0_B V c ⟨n + 1, hn⟩ (by dsimp only; omega) h1]
      frame_out
      rw [read_unread_whole]
      exact step_le V c ⟨n + 1, hn⟩ _ a d z

/-- After the last block the joined partial maxima are the column's largest absolute value. -/
theorem join_eq (c : Dev nD) (n : ℕ) (hn : n < cfg0.N) (h : n % 24 = 23) (d : Fin 2816) :
    Finset.univ.fold max ⊥ (fun a : Fin 16 => (outsAt0 V c n hn).2.2 (ix2 a d)) = amaxOf (X0 V c) d := by
  have hN := lt_of_lt_of_eq hn N_0
  refine eq_of_forall_ge_iff fun z => ?_
  rw [Finset.fold_max_le, amaxOf_le]
  simp only [bot_le, true_and, Finset.mem_univ, forall_true_left]
  refine ⟨fun hz r => ?_, fun hz a => (scratch_le V c n hn a d z).mpr ⟨?_, fun r _ _ => hz r⟩⟩
  · exact ((scratch_le V c n hn ⟨r.val % 16, by omega⟩ d z).mp (hz _)).2 r (by omega) rfl
  · exact (abs'_nonneg _).trans (hz ⟨0, by decide⟩)

/-- What the last block leaves in the two outputs. -/
theorem last_at (c : Dev nD) (hX : InRange (X0 V c)) (t : Fin cfg0.N) (h : t.val % 24 = 23) (d : Fin 2816) :
    (outsAt0 V c t.val t.isLt).1 (ix2 0 d) = scaleOf (X0 V c) d
    ∧ (outsAt0 V c t.val t.isLt).2.1 (ix2 0 d) = invOf (X0 V c) d := by
  have hs := join_eq V c t.val t.isLt h d
  rw [outsAt0_C V c t (by omega) h] at hs ⊢
  frame_out at hs
  frame_out
  rw [pay7_at, pay8_at, pay3_at, hs]
  exact ⟨Exponent.scale_eq _ (hX d), Exponent.inv_eq _ (hX d)⟩

/-- The scale after the call. -/
theorem scale_final (c : Dev nD) (hX : InRange (X0 V c)) :
    (dat0 V c).arrAt 1 cfg0.N = fun j : S1x2816.Idx => scaleOf (X0 V c) (j 1) := by
  refine (dat0 V c).arrAt_eq_of_covers 1 _ (by decide +kernel) fun t hf y => ?_
  blk_simp
  rw [after0_1]
  idx_vars y
  obtain rfl : y0 = 0 := Subsingleton.elim _ _
  refine (last_at V c hX t ((flush0_1 t).mp hf) y1).1.trans ?_
  refine congrArg (fun d : Fin 2816 => scaleOf (X0 V c) d) (Fin.ext ?_)
  blk_simp [idx0 t]

/-- The inverse scale after the call. -/
theorem inv_final (c : Dev nD) (hX : InRange (X0 V c)) :
    (dat0 V c).arrAt 2 cfg0.N = fun j : S1x2816.Idx => invOf (X0 V c) (j 1) := by
  refine (dat0 V c).arrAt_eq_of_covers 2 _ (by decide +kernel) fun t hf y => ?_
  blk_simp
  rw [after0_2]
  idx_vars y
  obtain rfl : y0 = 0 := Subsingleton.elim _ _
  refine (last_at V c hX t ((flush0_2 t).mp hf) y1).2.trans ?_
  refine congrArg (fun d : Fin 2816 => invOf (X0 V c) d) (Fin.ext ?_)
  blk_simp [idx0 t]

end Cert.KernelIdeal.Value

end
-- ==== Proof.QuantValue.lean ====
/- The second call: the codes. Each entry is multiplied by its column's inverse scale and clipped to [-448, 448]; the
   codes are kept rows by columns and transposed. -/
module

public import proofs.«01_k».proof.Proof.KernelIdeal.Region1
public import proofs.«01_k».proof.Proof.Spec
public import Idealize.ShloMosaic.Lib.Pipeline.ValueKit

@[expose] public section

set_option maxRecDepth 16384

noncomputable section

namespace Cert.KernelIdeal.Value

open Cert.KernelIdeal Cert.KernelIdeal.Gen Cert.Spec
open Idealize.ShloMosaic Idealize.ShloMosaic.TcCoe Idealize.SL.Sem
open Idealize.ShloMosaic.Pipeline (Dat)

/-- The body's codes, entry by entry. -/
theorem k1_pay1_at (x : FVec Ideal S512x2816 .bf16) (i : FVec Ideal S1x2816 .bf16) (a : Fin 512) (d : Fin 2816) :
    k1_pay1 (F := Ideal) x i (ix2 a d) = code (x (ix2 a d)) (i (ix2 0 d)) := by
  pointwise [k1_pay1]
  rfl

/-- The body's transposed codes, entry by entry. -/
theorem k1_pay2_at (x : FVec Ideal S512x2816 .bf16) (i : FVec Ideal S1x2816 .bf16) (a : Fin 512) (d : Fin 2816) :
    k1_pay2 (F := Ideal) x i (ix2 d a) = code (x (ix2 a d)) (i (ix2 0 d)) := by
  rw [← k1_pay1_at]
  unfold k1_pay2
  pointwise

variable (V : (c : Dev nD) → (b : Ref sig .tc) → Buf (Elt Ideal) ((c : Thread nD τ).loc b))

theorem idx1 : ∀ t : Fin cfg1.N, win1_0.index t = ![t.val, 0] ∧ win1_1.index t = ![0, 0] ∧ win1_2.index t = ![t.val, 0]
    ∧ win1_3.index t = ![0, t.val] :=
  (by decide +kernel : ∀ t : Fin grid1.N, _)

/-- The input, rows by columns. -/
abbrev X1 (c : Dev nD) : FVec Ideal S24576x2816 .bf16 := V c main_v0

/-- The inverse scales. -/
abbrev I1 (c : Dev nD) : FVec Ideal S1x2816 .bf16 := V c main_v2_1

/-- The codes after the call. -/
theorem codes_final (c : Dev nD) :
    (dat1 V c).arrAt 2 cfg1.N = fun j : S24576x2816.Idx => code (X1 V c j) (I1 V c (ix2 0 (j 1))) := by
  refine (dat1 V c).arrAt_eq_of_covers 2 _ (by decide +kernel) fun t hf y => ?_
  blk_simp
  rw [after1_2]
  frame_out
  idx_vars y
  rw [k1_pay1_at]
  blk_point [iblk1, idx1 t]

/-- The transposed codes after the call. -/
theorem codesT_final (c : Dev nD) :
    (dat1 V c).arrAt 3 cfg1.N = fun j : S2816x24576.Idx => code (X1 V c (ix2 (j 1) (j 0))) (I1 V c (ix2 0 (j 0))) := by
  refine (dat1 V c).arrAt_eq_of_covers 3 _ (by decide +kernel) fun t hf y => ?_
  blk_simp
  rw [after1_3]
  frame_out
  idx_vars y
  rw [k1_pay2_at]
  blk_point [iblk1, idx1 t]

end Cert.KernelIdeal.Value

end
-- ==== Proof.WgradValue.lean ====
/- The third call: the matrix product, accumulated over six blocks of rows, then scaled and added to the gradient. -/
module

public import proofs.«01_k».proof.Proof.KernelIdeal.Region2
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

theorem k2_zero (j) : k2_pay1 (F := Ideal) j = 0 := by pointwise [k2_pay1]

/-- One block's part of the product. -/
theorem k2_acc (acc : FVec Ideal S1408x1024 .f32) (xt : FVec Ideal S1408x4096 .fp8e4m3) (y : FVec Ideal S4096x1024 .fp8e5m2)
    (j : S1408x1024.Idx) :
    k2_pay2 (F := Ideal) acc xt y j = acc j + ∑ k : Fin 4096, xt (ix2 (j 0) k) * y (ix2 k (j 1)) := by
  pointwise [k2_pay2]

/-- The scaling of the accumulated product. -/
theorem k2_out (mg acc : FVec Ideal S1408x1024 .f32) (xs : FVec Ideal S1408x1 .f32) (ys : FVec Ideal S1x1024 .f32)
    (j : S1408x1024.Idx) :
    k2_pay3 (F := Ideal) mg acc xs ys j = mg j + acc j * (xs (ix2 (j 0) 0) * ys (ix2 0 (j 1))) := by
  pointwise [k2_pay3]

variable (V : (c : Dev nD) → (b : Ref sig .tc) → Buf (Elt Ideal) ((c : Thread nD τ).loc b))

theorem idx2 : ∀ t : Fin cfg2.N, win2_0.index t = ![t.val / 24, t.val % 6] ∧ win2_1.index t = ![t.val % 6, t.val / 6 % 4]
    ∧ win2_2.index t = ![t.val / 24, 0] ∧ win2_3.index t = ![0, t.val / 6 % 4] ∧ win2_4.index t = ![t.val / 24, t.val / 6 % 4]
    ∧ win2_5.index t = ![t.val / 24, t.val / 6 % 4] :=
  (by decide +kernel : ∀ t : Fin grid2.N, _)

/-- The arrays the call reads. -/
abbrev CT2 (c : Dev nD) : FVec Ideal S2816x24576 .fp8e4m3 := V c main_v3_1
abbrev Y2 (c : Dev nD) : FVec Ideal S24576x4096 .fp8e5m2 := V c main_v1
abbrev XS2 (c : Dev nD) : FVec Ideal S2816x1 .f32 := V c main_v4
abbrev YS2 (c : Dev nD) : FVec Ideal S1x4096 .f32 := V c main_v5
abbrev MG2 (c : Dev nD) : FVec Ideal S2816x4096 .f32 := V c main_arg3

/-- The two factors' blocks at point `t`. -/
abbrev B0 (c : Dev nD) (t : Fin cfg2.N) : FVec Ideal S1408x4096 .fp8e4m3 := iblk2 V c 0 t
abbrev B1 (c : Dev nD) (t : Fin cfg2.N) : FVec Ideal S4096x1024 .fp8e5m2 := iblk2 V c 1 t

/-- Block `t`'s part of entry `(i, j)` of the product. -/
def part (c : Dev nD) (t : Fin cfg2.N) (j : S1408x1024.Idx) : EReal :=
  ∑ k : Fin 4096, B0 V c t (ix2 (j 0) k) * B1 V c t (ix2 k (j 1))

/-- The accumulator at the last block of a run is the sum of the run's six parts. -/
theorem acc_parts (c : Dev nD) (t : Fin cfg2.N) (h : t.val % 6 = 5) (j : S1408x1024.Idx) :
    (outsAt2 V c t.val t.isLt).2 j
      = ∑ s : Fin 6, part V c ⟨6 * (t.val / 6) + s.val, Pipeline.run_point_lt_of_flush t h s⟩ j := by
  refine (Pipeline.eq_sum_fin_of_reset_step_apply_of_flush (fun n h => (outsAt2 V c n h).2) 6 (fun _ => 0) (part V c)
    ?_ ?_ t h j).trans (zero_add _)
  · intro t h0 i
    rw [outsAt2_A V c t h0 (by omega)]
    frame_out
    rw [k2_acc, k2_zero]
    rfl
  · intro t h0 i
    by_cases h1 : t.val % 6 = 5
    · rw [outsAt2_C V c t h0 h1]
      frame_out
      rw [k2_acc, read_unread_whole]
      rfl
    · rw [outsAt2_B V c t h0 h1]
      frame_out
      rw [k2_acc, read_unread_whole]
      rfl

/-- A block of the transposed codes, in the array's coordinates. -/
theorem iblk2_0 (c : Dev nD) (t : Fin cfg2.N) (i : Fin 1408) (k : Fin 4096) :
    B0 V c t (ix2 i k)
      = CT2 V c (ix2 ⟨t.val / 24 * 1408 + i.val, by have := lt_of_lt_of_eq t.isLt N_2; omega⟩
          ⟨t.val % 6 * 4096 + k.val, by omega⟩) := by
  blk_ext [B0, B1, iblk2, idx2 t]

/-- A block of the other factor, in the array's coordinates. -/
theorem iblk2_1 (c : Dev nD) (t : Fin cfg2.N) (k : Fin 4096) (j : Fin 1024) :
    B1 V c t (ix2 k j)
      = Y2 V c (ix2 ⟨t.val % 6 * 4096 + k.val, by omega⟩ ⟨t.val / 6 % 4 * 1024 + j.val, by omega⟩) := by
  blk_ext [B0, B1, iblk2, idx2 t]

/-- The accumulator at the last block of a run is the whole sum over the rows. -/
theorem acc_at (c : Dev nD) (t : Fin cfg2.N) (h : t.val % 6 = 5) (i : Fin 1408) (j : Fin 1024) :
    (outsAt2 V c t.val t.isLt).2 (ix2 i j)
      = ∑ l : Fin 24576, CT2 V c (ix2 ⟨t.val / 24 * 1408 + i.val, by have := lt_of_lt_of_eq t.isLt N_2; omega⟩ l)
          * Y2 V c (ix2 l ⟨t.val / 6 % 4 * 1024 + j.val, by omega⟩) := by
  rw [acc_parts V c t h]
  unfold part
  refine Fin.sum_mul_add_congr fun s k hl => ?_
  refine (congrArg₂ (· * ·) (iblk2_0 V c _ i k) (iblk2_1 V c _ k j)).trans ?_
  refine congrArg₂ (fun a b => CT2 V c a * Y2 V c b) ?_ ?_
  · refine congrArg₂ ix2 (Fin.ext ?_) (Fin.ext ?_)
    · dsimp only; omega
    · dsimp only; omega
  · refine congrArg₂ ix2 (Fin.ext ?_) (Fin.ext ?_)
    · dsimp only; omega
    · dsimp only; omega

/-- The entry of the result: the gradient plus the scaled product. -/
def wgrad (CT : FVec Ideal S2816x24576 .fp8e4m3) (Y : FVec Ideal S24576x4096 .fp8e5m2) (XS : FVec Ideal S2816x1 .f32)
    (YS : FVec Ideal S1x4096 .f32) (MG : FVec Ideal S2816x4096 .f32) (i : Fin 2816) (j : Fin 4096) : EReal :=
  MG (ix2 i j) + (∑ l : Fin 24576, CT (ix2 i l) * Y (ix2 l j)) * (XS (ix2 i 0) * YS (ix2 0 j))

/-- The result after the call. -/
theorem out_final (c : Dev nD) :
    (dat2 V c).arrAt 5 cfg2.N
      = fun j : S2816x4096.Idx => wgrad (CT2 V c) (Y2 V c) (XS2 V c) (YS2 V c) (MG2 V c) (j 0) (j 1) := by
  refine (dat2 V c).arrAt_eq_of_covers 5 _ (by decide +kernel) fun t hf y => ?_
  have h5 := (flush2_5 t).mp hf
  have ht := lt_of_lt_of_eq t.isLt N_2
  blk_simp
  rw [after2_5]
  idx_vars y
  have hs := acc_at V c t h5 y0 y1
  rw [outsAt2_C V c t (by omega) h5] at hs ⊢
  frame_out at hs
  frame_out
  rw [k2_out, hs]
  unfold wgrad
  blk_point [iblk2, idx2 t]

end Cert.KernelIdeal.Value

end
-- ==== Proof.KernelRun.lean ====
/- The kernel's run: what its three results hold at the end, in terms of its arguments. -/
module

public import proofs.«01_k».proof.Proof.KernelIdeal.Frame
public import proofs.«01_k».proof.Proof.AmaxValue
public import proofs.«01_k».proof.Proof.QuantValue
public import proofs.«01_k».proof.Proof.WgradValue
public import Idealize.ShloMosaic.Lib.Claim

@[expose] public section

set_option maxRecDepth 16384

noncomputable section

namespace Cert.KernelIdeal.Value

open Cert.KernelIdeal Cert.KernelIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments as matrices. -/
abbrev Xm (c : Dev nD) : FVec Ideal S24576x2816 .bf16 :=
  shapeCast S24576x2816 (m ((c : Thread nD τ).loc main_arg0) : FVec Ideal S3x8192x2816 .bf16) shapeCasts_S3x8192x2816_S24576x2816
abbrev Ym (c : Dev nD) : FVec Ideal S24576x4096 .fp8e5m2 :=
  shapeCast S24576x4096 (m ((c : Thread nD τ).loc main_arg1) : FVec Ideal S3x8192x4096 .fp8e5m2) shapeCasts_S3x8192x4096_S24576x4096
abbrev YSm (c : Dev nD) : FVec Ideal S1x4096 .f32 :=
  shapeCast S1x4096 (m ((c : Thread nD τ).loc main_arg2) : FVec Ideal S4096 .f32) shapeCasts_S4096_S1x4096
abbrev MGm (c : Dev nD) : FVec Ideal S2816x4096 .f32 := m ((c : Thread nD τ).loc main_arg3)

theorem v0_1 (c : Dev nD) : W1 m ρ c (Proc.devRef .tc main_v0) = Xm m c := by
  show StableHlo.after hostOps0 (W0 m ρ c) (Proc.devRef .tc main_v0) = _
  entry_read
  rfl

theorem v1_1 (c : Dev nD) : W1 m ρ c (Proc.devRef .tc main_v1) = Ym m c := by
  show StableHlo.after hostOps0 (W0 m ρ c) (Proc.devRef .tc main_v1) = _
  entry_read
  rfl

theorem v0_2 (c : Dev nD) : W2 m ρ c (Proc.devRef .tc main_v0) = Xm m c :=
  (W2_of m ρ c main_v0 (by decide +kernel)).trans (v0_1 m ρ c)

theorem scale_2 (c : Dev nD) (hX : InRange (Xm m c)) :
    W2 m ρ c (Proc.devRef .tc main_v2_0) = fun j : S1x2816.Idx => scaleOf (Xm m c) (j 1) := by
  refine (W2_arr m ρ c 1).trans ?_
  have e : X0 (V1 m ρ) c = Xm m c := v0_1 m ρ c
  rw [← e] at hX ⊢
  exact scale_final (V1 m ρ) c hX

theorem inv_2 (c : Dev nD) (hX : InRange (Xm m c)) :
    W2 m ρ c (Proc.devRef .tc main_v2_1) = fun j : S1x2816.Idx => invOf (Xm m c) (j 1) := by
  refine (W2_arr m ρ c 2).trans ?_
  have e : X0 (V1 m ρ) c = Xm m c := v0_1 m ρ c
  rw [← e] at hX ⊢
  exact inv_final (V1 m ρ) c hX

theorem codes_3 (c : Dev nD) (hX : InRange (Xm m c)) :
    W3 m ρ c (Proc.devRef .tc main_v3_0) = fun j : S24576x2816.Idx => codeOf (Xm m c) (j 0) (j 1) := by
  refine (W3_arr m ρ c 2).trans ((codes_final (V2 m ρ) c).trans ?_)
  have e : X1 (V2 m ρ) c = Xm m c := v0_2 m ρ c
  have e' : I1 (V2 m ρ) c = fun j : S1x2816.Idx => invOf (Xm m c) (j 1) := inv_2 m ρ c hX
  rw [e, e']
  funext j
  idx_vars j
  rfl

theorem codesT_3 (c : Dev nD) (hX : InRange (Xm m c)) :
    W3 m ρ c (Proc.devRef .tc main_v3_1) = fun j : S2816x24576.Idx => codeOf (Xm m c) (j 1) (j 0) := by
  refine (W3_arr m ρ c 3).trans ((codesT_final (V2 m ρ) c).trans ?_)
  have e : X1 (V2 m ρ) c = Xm m c := v0_2 m ρ c
  have e' : I1 (V2 m ρ) c = fun j : S1x2816.Idx => invOf (Xm m c) (j 1) := inv_2 m ρ c hX
  rw [e, e']
  rfl

theorem scale_3 (c : Dev nD) (hX : InRange (Xm m c)) :
    W3 m ρ c (Proc.devRef .tc main_v2_0) = fun j : S1x2816.Idx => scaleOf (Xm m c) (j 1) :=
  (W3_of m ρ c main_v2_0 (by decide +kernel)).trans (scale_2 m ρ c hX)

theorem xs_4 (c : Dev nD) (hX : InRange (Xm m c)) (i : Fin 2816) :
    XS2 (V4 m ρ) c (ix2 i 0) = scaleOf (Xm m c) i := by
  have h : XS2 (V4 m ρ) c = shapeCast S2816x1 (W3 m ρ c (Proc.devRef .tc main_v2_0) : FVec Ideal S1x2816 .f32) shapeCasts_S1x2816_S2816x1 := by
    show StableHlo.after hostOps2 (W3 m ρ c) (Proc.devRef .tc main_v4) = _
    entry_read
    rfl
  rw [h, scale_3 m ρ c hX]
  pointwise

theorem ys_4 (c : Dev nD) : YS2 (V4 m ρ) c = YSm m c := by
  show StableHlo.after hostOps2 (W3 m ρ c) (Proc.devRef .tc main_v5) = _
  entry_read
  rw [W3_args m ρ c main_arg2 (by decide)]
  rfl

theorem out_5 (c : Dev nD) (hX : InRange (Xm m c)) :
    W5 m ρ c (Proc.devRef .tc main_v6)
      = fun j : S2816x4096.Idx => outOf (Xm m c) (Ym m c) (YSm m c) (MGm m c) (j 0) (j 1) := by
  refine (W5_arr m ρ c 5).trans ((out_final (V4 m ρ) c).trans ?_)
  have eCT : CT2 (V4 m ρ) c = fun j : S2816x24576.Idx => codeOf (Xm m c) (j 1) (j 0) :=
    (W4_of m ρ c main_v3_1 (by decide)).trans (codesT_3 m ρ c hX)
  have eY : Y2 (V4 m ρ) c = Ym m c :=
    (W4_of m ρ c main_v1 (by decide)).trans ((W3_of m ρ c main_v1 (by decide +kernel)).trans
      ((W2_of m ρ c main_v1 (by decide +kernel)).trans (v1_1 m ρ c)))
  have eG : MG2 (V4 m ρ) c = MGm m c := W4_args m ρ c main_arg3 (by decide)
  rw [eCT, eY, ys_4, eG]
  funext j
  idx_vars j
  show wgrad _ _ _ _ _ j0 j1 = outOf _ _ _ _ j0 j1
  unfold wgrad
  rw [xs_4 m ρ c hX]
  rfl

theorem v6_6 (c : Dev nD) (hX : InRange (Xm m c)) :
    W6 m ρ c (Proc.devRef .tc main_v6)
      = fun j : S2816x4096.Idx => outOf (Xm m c) (Ym m c) (YSm m c) (MGm m c) (j 0) (j 1) :=
  (W6_of m ρ c main_v6 (by decide)).trans (out_5 m ρ c hX)

theorem v7_6 (c : Dev nD) (hX : InRange (Xm m c)) :
    W6 m ρ c (Proc.devRef .tc main_v7)
      = shapeCast S3x8192x2816 (fun j : S24576x2816.Idx => codeOf (Xm m c) (j 0) (j 1) : FVec Ideal S24576x2816 .fp8e4m3) shapeCasts_S24576x2816_S3x8192x2816 := by
  have h : W5 m ρ c (Proc.devRef .tc main_v3_0) = fun j : S24576x2816.Idx => codeOf (Xm m c) (j 0) (j 1) :=
    (W5_of m ρ c main_v3_0 (by decide +kernel)).trans ((W4_of m ρ c main_v3_0 (by decide)).trans (codes_3 m ρ c hX))
  show StableHlo.after hostOps3 (W5 m ρ c) (Proc.devRef .tc main_v7) = _
  entry_read
  rw [h]
  rfl

theorem v8_6 (c : Dev nD) (hX : InRange (Xm m c)) :
    W6 m ρ c (Proc.devRef .tc main_v8)
      = shapeCast S2816 (fun j : S1x2816.Idx => scaleOf (Xm m c) (j 1) : FVec Ideal S1x2816 .f32) shapeCasts_S1x2816_S2816 := by
  have h : W5 m ρ c (Proc.devRef .tc main_v2_0) = fun j : S1x2816.Idx => scaleOf (Xm m c) (j 1) :=
    (W5_of m ρ c main_v2_0 (by decide +kernel)).trans ((W4_of m ρ c main_v2_0 (by decide)).trans (scale_3 m ρ c hX))
  show StableHlo.after hostOps3 (W5 m ρ c) (Proc.devRef .tc main_v8) = _
  entry_read
  rw [h]
  rfl

end Cert.KernelIdeal.Value

end
-- ==== Proof.ReferencePayload.lean ====
/- The reference's body: each value it stores, entry by entry. -/
module

public import proofs.«01_k».proof.Proof.Gen.ReferenceIdeal.Skeleton
public import proofs.«01_k».proof.Proof.Spec
public import Idealize.ShloMosaic.Lib.Pipeline.ValueKit

@[expose] public section

set_option maxRecDepth 16384

noncomputable section

namespace Cert.ReferenceIdeal.Value

open Cert.ReferenceIdeal Cert.ReferenceIdeal.Gen Cert.Spec
open Idealize.ShloMosaic Idealize.ShloMosaic.TcCoe Idealize.SL.Sem

theorem bot_f32 : Ideal.ofBits .f32 4286578688#32 = ⊥ := by
  simp [Ideal.ofBits, Ideal.ieee]

/-- The constant 1/448 is not zero, so scaling by it keeps zero and only zero. -/
theorem c448_ne : c448 ≠ 0 := by
  simp [Ideal.ofBits, Ideal.ieee]

theorem ratio_eq_zero (X : FVec Ideal SX .bf16) (d : Fin 2816) : amaxOf X d = 0 ↔ ratio X d = 0 := by
  unfold ratio
  rw [mul_eq_zero]
  exact ⟨Or.inl, fun h => h.resolve_right c448_ne⟩

theorem pay1_eq (x : FVec Ideal S24576x2816 .bf16) : k0_pay1 (F := Ideal) x = x :=
  shapeCast_self (s := S24576x2816) x _

/-- The row index put back on a column. -/
theorem lift_eq {n d : ℕ} (h : Shape.Reduces (⟨2, ![n, d]⟩ : Shape) [0] ⟨1, ![d]⟩) (j : Fin d) (r : Fin n) :
    h.lift (ix1 j) r = ix2 r j := by
  funext a
  refine Fin.ext ?_
  fin_cases a
  · show h.liftVal (ix1 j) r.val 0 = r.val
    simp [Shape.Reduces.liftVal]
  · show h.liftVal (ix1 j) r.val 1 = j.val
    simp [Shape.Reduces.liftVal]

/-- The largest absolute value of a column, for a matrix of any size. -/
theorem amax_at {n d : ℕ} (x : FVec Ideal (⟨2, ![n, d]⟩ : Shape) .f32) (h : Shape.Reduces (⟨2, ![n, d]⟩ : Shape) [0] ⟨1, ![d]⟩) (hφ) (hacc)
    (hs : Shape.ShapeCasts (⟨1, ![d]⟩ : Shape) ⟨2, ![1, d]⟩) (j : Fin d) :
    shapeCast ⟨2, ![1, d]⟩ (multiReduction .maximumf [0] ⟨1, ![d]⟩ (absf x) 0xFF800000#32 h hφ hacc) hs (ix2 0 j)
      = Finset.univ.fold max (Ideal.ofBits .f32 4286578688#32) fun r : Fin n => abs' (x (ix2 r j)) := by
  rw [shapeCast_apply _ _ _ (ix1 j) (by rw [Shape.rowMajor_val_one, Shape.rowMajor_val_two]; simp)]
  rw [Ideal.multiReduction_maximumf_single]
  refine congrArg (Finset.fold max _ · _) (funext fun r => ?_)
  exact congrArg (fun i => abs' (x i)) (lift_eq h j r)

/-- The exponents from the largest absolute values. -/
def expo {d : ℕ} (a : FVec Ideal (⟨2, ![1, d]⟩ : Shape) .f32) : FVec Ideal (⟨2, ![1, d]⟩ : Shape) .f32 :=
  select (cmpf .oeq a (broadcast _ (Scalar.ofBits .f32 0x00000000#32))) (broadcast _ (Scalar.ofBits .f32 0x00000000#32))
    (addf (floor (divf (log (mulf a (broadcast _ (Scalar.ofBits .f32 0x3B124925#32)))) (broadcast _ (Named.named κ "ln2" 0x3F317218#32))))
      (broadcast _ (Scalar.ofBits .f32 0x3F800000#32)))

theorem expo_at {d : ℕ} (a : FVec Ideal (⟨2, ![1, d]⟩ : Shape) .f32) (j) :
    expo a j = if a j = 0 then 0 else
      Ideal.liftRound Int.floor (Ideal.div (Ideal.log (a j * c448)) ((Real.log 2 : ℝ) : EReal)) + 1 := by
  pointwise [expo]
  rfl

theorem pay2_eq (x : FVec Ideal S24576x2816 .bf16) : k0_pay2 (F := Ideal) x
    = expo (d := 2816) (shapeCast S1x2816 (multiReduction .maximumf [0] S2816 (absf (k0_pay1 (F := Ideal) x)) 0xFF800000#32 reduces_S24576x2816_S2816 (.inl rfl) rfl) shapeCasts_S2816_S1x2816) := by
  unfold k0_pay2 expo
  rfl

/-- The codes from the entries and the exponents. -/
def codes {n d : ℕ} (x : FVec Ideal (⟨2, ![n, d]⟩ : Shape) .f32) (e : FVec Ideal (⟨2, ![1, d]⟩ : Shape) .f32)
    (h : Shape.Broadcasts (⟨2, ![1, d]⟩ : Shape) ⟨2, ![n, d]⟩) (hb : FTy.bits .fp8e4m3 < FTy.bits .f32) : FVec Ideal (⟨2, ![n, d]⟩ : Shape) .fp8e4m3 :=
  truncf .fp8e4m3 (minimumf (broadcast _ (Scalar.ofBits .f32 0x43E00000#32)) (maximumf (broadcast _ (Scalar.ofBits .f32 0xC3E00000#32))
    (mulf x (broadcastTo _ (exp2 (subf (broadcast _ (Scalar.ofBits .f32 0x00000000#32)) e)) h)))) hb

/-- One row broadcast over many. -/
theorem row_at {n d : ℕ} (v : FVec Ideal (⟨2, ![1, d]⟩ : Shape) .f32) (h : Shape.Broadcasts (⟨2, ![1, d]⟩ : Shape) ⟨2, ![n, d]⟩)
    (l : Fin n) (j : Fin d) : broadcastTo ⟨2, ![n, d]⟩ v h (ix2 l j) = v (ix2 0 j) := by
  refine broadcastTo_apply v h (ix2 l j) (ix2 0 j) fun a => ?_
  match a with
  | ⟨0, _⟩ => rfl
  | ⟨1, _⟩ =>
    show j.val = if d = 1 then 0 else j.val
    split
    · have := j.isLt; omega
    · rfl

theorem codes_at {n d : ℕ} (x : FVec Ideal (⟨2, ![n, d]⟩ : Shape) .f32) (e : FVec Ideal (⟨2, ![1, d]⟩ : Shape) .f32) (h) (hb)
    (l : Fin n) (j : Fin d) : codes x e h hb (ix2 l j) = code (x (ix2 l j)) (Ideal.exp2 (0 - e (ix2 0 j))) := by
  unfold codes code
  show min _ (max _ (x (ix2 l j) * broadcastTo _ _ _ (ix2 l j))) = _
  rw [row_at]
  pointwise
  rfl

theorem pay4_eq (x : FVec Ideal S24576x2816 .bf16) : k0_pay4 (F := Ideal) x
    = codes (n := 24576) (d := 2816) (k0_pay1 (F := Ideal) x) (k0_pay2 (F := Ideal) x) broadcasts_S1x2816_S24576x2816 bitsLt_fp8e4m3_f32 := by
  unfold k0_pay4 codes
  rfl

theorem mm_at (c : FVec Ideal S24576x2816 .fp8e4m3) (y : FVec Ideal S24576x4096 .fp8e5m2) (i : Fin 2816) (j : Fin 4096) :
    matmul (F := Ideal) dot_S24576x2816_S24576x4096_S2816x4096_0_0_1_1_n_n none c y (constant S2816x4096 .f32 0x00000000#32) (ix2 i j)
      = ∑ l : Fin 24576, c (ix2 l i) * y (ix2 l j) := by
  pointwise

theorem tail_at (mg mm : FVec Ideal S2816x4096 .f32) (s : FVec Ideal S1x2816 .f32) (ys : FVec Ideal S1x4096 .f32) (i : Fin 2816) (j : Fin 4096) :
   (addf mg (mulf mm (mulf (broadcastTo S2816x4096 (transpose S2816x1 [1, 0] s transposes_S1x2816_p1_0_S2816x1) broadcasts_S2816x1_S2816x4096)
     (broadcastTo S2816x4096 (shapeCast S1x4096 ys shapeCasts_S1x4096_S1x4096) broadcasts_S1x4096_S2816x4096))) : FVec Ideal S2816x4096 .f32) (ix2 i j)
     = mg (ix2 i j) + mm (ix2 i j) * (s (ix2 0 i) * ys (ix2 0 j)) := by
  pointwise

theorem pay5_eq (x : FVec Ideal S24576x2816 .bf16) (y : FVec Ideal S24576x4096 .fp8e5m2) (mg : FVec Ideal S2816x4096 .f32)
    (ys : FVec Ideal S1x4096 .f32) : k0_pay5 (F := Ideal) x y mg ys =
    addf mg (mulf (matmul dot_S24576x2816_S24576x4096_S2816x4096_0_0_1_1_n_n none (k0_pay4 x) (shapeCast S24576x4096 y shapeCasts_S24576x4096_S24576x4096) (constant S2816x4096 .f32 0x00000000#32))
     (mulf (broadcastTo S2816x4096 (transpose S2816x1 [1, 0] (k0_pay3 x) transposes_S1x2816_p1_0_S2816x1) broadcasts_S2816x1_S2816x4096)
     (broadcastTo S2816x4096 (shapeCast S1x4096 ys shapeCasts_S1x4096_S1x4096) broadcasts_S1x4096_S2816x4096))) := rfl

/-- The largest absolute values, as the specification has them. -/
theorem amax_eq (x : FVec Ideal S24576x2816 .bf16) (d : Fin 2816) :
    shapeCast S1x2816 (multiReduction .maximumf [0] S2816 (absf (k0_pay1 (F := Ideal) x)) 0xFF800000#32 reduces_S24576x2816_S2816 (.inl rfl) rfl)
      shapeCasts_S2816_S1x2816 (ix2 0 d) = amaxOf x d := by
  refine (amax_at (n := 24576) (d := 2816) _ _ _ _ _ _).trans ?_
  unfold amaxOf
  rw [bot_f32, pay1_eq]

/-- The exponent of every column. -/
theorem pay2_at (x : FVec Ideal S24576x2816 .bf16) (d : Fin 2816) :
    k0_pay2 (F := Ideal) x (ix2 0 d) = Exponent.refExp (ratio x d) := by
  have h := ratio_eq_zero x d
  rw [pay2_eq, expo_at, amax_eq]
  unfold Exponent.refExp
  unfold ratio at h ⊢
  generalize amaxOf x d = a at h ⊢
  by_cases h0 : a = 0
  · rw [if_pos h0, if_pos (h.mp h0)]
  · rw [if_neg h0, if_neg (fun e => h0 (h.mpr e))]

theorem exp2_at {s : Shape} (e : FVec Ideal s .f32) (j : s.Idx) : (exp2 e : FVec Ideal s .f32) j = Ideal.exp2 (e j) := rfl

theorem pay3_eq (x : FVec Ideal S24576x2816 .bf16) : k0_pay3 (F := Ideal) x = exp2 (k0_pay2 (F := Ideal) x) := by
  unfold k0_pay3
  rfl

/-- The scale of every column. -/
theorem pay3_at (x : FVec Ideal S24576x2816 .bf16) (d : Fin 2816) :
    k0_pay3 (F := Ideal) x (ix2 0 d) = scaleOf x d := by
  rw [pay3_eq, exp2_at, pay2_at]
  unfold scaleOf
  rfl

/-- The codes. -/
theorem pay4_at (x : FVec Ideal S24576x2816 .bf16) (l : Fin 24576) (d : Fin 2816) :
    k0_pay4 (F := Ideal) x (ix2 l d) = codeOf x l d := by
  unfold codeOf invOf
  rw [pay4_eq, ← pay2_at, pay1_eq]
  generalize k0_pay2 (F := Ideal) x = e
  exact codes_at (n := 24576) (d := 2816) x e _ _ l d

/-- The gradient. -/
theorem pay5_at (x : FVec Ideal S24576x2816 .bf16) (y : FVec Ideal S24576x4096 .fp8e5m2) (mg : FVec Ideal S2816x4096 .f32)
    (ys : FVec Ideal S1x4096 .f32) (i : Fin 2816) (j : Fin 4096) :
    k0_pay5 (F := Ideal) x y mg ys (ix2 i j) = outOf x y ys mg i j := by
  unfold outOf
  simp only [← pay3_at, ← pay4_at]
  rw [pay5_eq, shapeCast_self]
  generalize k0_pay4 (F := Ideal) x = c
  generalize k0_pay3 (F := Ideal) x = s
  rw [← mm_at]
  exact tail_at _ _ _ _ _ _

end Cert.ReferenceIdeal.Value

end
-- ==== Proof.ReferenceValue.lean ====
/- The reference: what its three results hold at the end, in terms of its arguments. -/
module

public import proofs.«01_k».proof.Proof.Gen.ReferenceIdeal.Frame
public import proofs.«01_k».proof.Proof.ReferencePayload
public import Idealize.ShloMosaic.Lib.Pipeline.ValueKit
public import Idealize.ShloMosaic.Lib.Claim

@[expose] public section

set_option maxRecDepth 16384

noncomputable section

namespace Cert.ReferenceIdeal.Value

open Cert.ReferenceIdeal Cert.ReferenceIdeal.Gen Cert.Spec
open Idealize.ShloMosaic Idealize.ShloMosaic.TcCoe Idealize.SL.Sem
open Idealize.ShloMosaic.Pipeline (Dat)

/-- What the body leaves in each output's buffer, entry by entry. -/
theorem out4_at (x : FVec Ideal S24576x2816 .bf16) (y : FVec Ideal S24576x4096 .fp8e5m2) (ys : FVec Ideal S1x4096 .f32)
    (mg : FVec Ideal S2816x4096 .f32) (i : Fin 2816) (j : Fin 4096) :
    out0_4 (F := Ideal) x y ys mg (ix2 i j) = outOf x y ys mg i j := by
  frame_out
  exact pay5_at x y mg ys i j

theorem out5_at (x : FVec Ideal S24576x2816 .bf16) (y : FVec Ideal S24576x4096 .fp8e5m2) (ys : FVec Ideal S1x4096 .f32)
    (mg : FVec Ideal S2816x4096 .f32) (l : Fin 24576) (d : Fin 2816) :
    out0_5 (F := Ideal) x y ys mg (ix2 l d) = codeOf x l d := by
  frame_out
  exact pay4_at x l d

theorem out6_at (x : FVec Ideal S24576x2816 .bf16) (y : FVec Ideal S24576x4096 .fp8e5m2) (ys : FVec Ideal S1x4096 .f32)
    (mg : FVec Ideal S2816x4096 .f32) (d : Fin 2816) :
    out0_6 (F := Ideal) x y ys mg (ix2 0 d) = scaleOf x d := by
  frame_out
  exact pay3_at x d

variable (m : (ℓ : Loc nD τ sig) → Buf (Elt Ideal) ℓ) (ρ : Dev nD → PrngReg)

/-- The arguments as matrices. -/
abbrev Xm (c : Dev nD) : FVec Ideal S24576x2816 .bf16 :=
  shapeCast S24576x2816 (m ((c : Thread nD τ).loc main_arg0) : FVec Ideal S3x8192x2816 .bf16) shapeCasts_S3x8192x2816_S24576x2816
abbrev Ym (c : Dev nD) : FVec Ideal S24576x4096 .fp8e5m2 :=
  shapeCast S24576x4096 (m ((c : Thread nD τ).loc main_arg1) : FVec Ideal S3x8192x4096 .fp8e5m2) shapeCasts_S3x8192x4096_S24576x4096
abbrev YSm (c : Dev nD) : FVec Ideal S1x4096 .f32 :=
  shapeCast S1x4096 (m ((c : Thread nD τ).loc main_arg2) : FVec Ideal S4096 .f32) shapeCasts_S4096_S1x4096
abbrev MGm (c : Dev nD) : FVec Ideal S2816x4096 .f32 := m ((c : Thread nD τ).loc main_arg3)

theorem V_v0 (c : Dev nD) : V m c main_v0 = Xm m c := by
  show StableHlo.after (List.flatten [hostOps0]) (fun b => m (c, b)) (Proc.devRef .tc main_v0) = _
  entry_read
  rfl

theorem V_v1 (c : Dev nD) : V m c main_v1 = Ym m c := by
  show StableHlo.after (List.flatten [hostOps0]) (fun b => m (c, b)) (Proc.devRef .tc main_v1) = _
  entry_read
  rfl

theorem V_v2 (c : Dev nD) : V m c main_v2 = YSm m c := by
  show StableHlo.after (List.flatten [hostOps0]) (fun b => m (c, b)) (Proc.devRef .tc main_v2) = _
  entry_read
  rfl

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The one point's blocks are the whole arrays. -/
theorem iblk_0 (c : Dev nD) (t : Fin cfg0.N) : (iblk m c 0 t : FVec Ideal S24576x2816 .bf16) = Xm m c := by
  refine Eq.trans (b := (V m c main_v0 : FVec Ideal S24576x2816 .bf16)) ?_ (V_v0 m c)
  funext j
  idx_vars j
  blk_ext [iblk, idx t]
theorem iblk_1 (c : Dev nD) (t : Fin cfg0.N) : (iblk m c 1 t : FVec Ideal S24576x4096 .fp8e5m2) = Ym m c := by
  refine Eq.trans (b := (V m c main_v1 : FVec Ideal S24576x4096 .fp8e5m2)) ?_ (V_v1 m c)
  funext j
  idx_vars j
  blk_ext [iblk, idx t]
theorem iblk_2 (c : Dev nD) (t : Fin cfg0.N) : (iblk m c 2 t : FVec Ideal S1x4096 .f32) = YSm m c := by
  refine Eq.trans (b := (V m c main_v2 : FVec Ideal S1x4096 .f32)) ?_ (V_v2 m c)
  funext j
  idx_vars j
  blk_ext [iblk, idx t]
theorem iblk_3 (c : Dev nD) (t : Fin cfg0.N) : (iblk m c 3 t : FVec Ideal S2816x4096 .f32) = MGm m c := by
  refine Eq.trans (b := (V m c main_arg3 : FVec Ideal S2816x4096 .f32)) ?_ (V_main_arg3 m c)
  funext j
  idx_vars j
  blk_ext [iblk, idx t]

theorem out_final (c : Dev nD) : (dats m 0 c).arrAt 4 cfg0.N = fun j : S2816x4096.Idx => outOf (Xm m c) (Ym m c) (YSm m c) (MGm m c) (j 0) (j 1) := by
  refine (dats m 0 c).arrAt_eq_of_after_last 4 t0_0 (by decide +kernel) _ fun j => ?_
  blk_simp
  rw [after0_4, iblk_0, iblk_1, iblk_2, iblk_3]
  idx_vars j
  exact out4_at _ _ _ _ j0 j1

theorem codes_final (c : Dev nD) : (dats m 0 c).arrAt 5 cfg0.N = fun j : S24576x2816.Idx => codeOf (Xm m c) (j 0) (j 1) := by
  refine (dats m 0 c).arrAt_eq_of_after_last 5 t0_0 (by decide +kernel) _ fun j => ?_
  blk_simp
  rw [after0_5, iblk_0, iblk_1, iblk_2, iblk_3]
  idx_vars j
  exact out5_at _ _ _ _ j0 j1

theorem scale_final (c : Dev nD) : (dats m 0 c).arrAt 6 cfg0.N = fun j : S1x2816.Idx => scaleOf (Xm m c) (j 1) := by
  refine (dats m 0 c).arrAt_eq_of_after_last 6 t0_0 (by decide +kernel) _ fun j => ?_
  blk_simp
  rw [after0_6, iblk_0, iblk_1, iblk_2, iblk_3]
  idx_vars j
  obtain rfl : j0 = 0 := Subsingleton.elim _ _
  exact out6_at _ _ _ _ j1

/-- What the lines after the call write, from any contents. -/
theorem after_v4 (W : Valuation τ sig (Elt Ideal)) : StableHlo.after (List.flatten [hostOps1]) W (Proc.devRef .tc main_v4)
    = shapeCast S3x8192x2816 (W (Proc.devRef .tc main_v3_1) : FVec Ideal S24576x2816 .fp8e4m3) shapeCasts_S24576x2816_S3x8192x2816 := by
  entry_read
  rfl

theorem after_v5 (W : Valuation τ sig (Elt Ideal)) : StableHlo.after (List.flatten [hostOps1]) W (Proc.devRef .tc main_v5)
    = shapeCast S2816 (W (Proc.devRef .tc main_v3_2) : FVec Ideal S1x2816 .f32) shapeCasts_S1x2816_S2816 := by
  entry_read
  rfl

theorem tail_v4 (c : Dev nD) : Pipeline.afterTail₀ cfgs (dats m) 0 (V0 m) [hostOps1] c main_v4
    = shapeCast S3x8192x2816 (fun j : S24576x2816.Idx => codeOf (Xm m c) (j 0) (j 1) : FVec Ideal S24576x2816 .fp8e4m3) shapeCasts_S24576x2816_S3x8192x2816 := by
  have h := (Pipeline.withArrays_arr spec0 launch0.win.arr_inj c (V0 m c) (fun w => (dats m 0 c).arrAt w cfg0.N) 5).trans (codes_final m c)
  refine (after_v4 _).trans ?_
  exact congrArg (fun v : FVec Ideal S24576x2816 .fp8e4m3 => shapeCast S3x8192x2816 v shapeCasts_S24576x2816_S3x8192x2816) h

theorem tail_v5 (c : Dev nD) : Pipeline.afterTail₀ cfgs (dats m) 0 (V0 m) [hostOps1] c main_v5
    = shapeCast S2816 (fun j : S1x2816.Idx => scaleOf (Xm m c) (j 1) : FVec Ideal S1x2816 .f32) shapeCasts_S1x2816_S2816 := by
  have h := (Pipeline.withArrays_arr spec0 launch0.win.arr_inj c (V0 m c) (fun w => (dats m 0 c).arrAt w cfg0.N) 6).trans (scale_final m c)
  refine (after_v5 _).trans ?_
  exact congrArg (fun v : FVec Ideal S1x2816 .f32 => shapeCast S2816 v shapeCasts_S1x2816_S2816) h

/-- Every execution of the reference ends with its three results at the stated values and its arguments unchanged. -/
theorem run : θ_run defs (onTc (τ := τ) (main (F := Ideal))) ⟨m, fun _ => 0, ρ⟩ (fun r => ∀ c : Dev nD,
      r.2.mem ((c.tc : Thread nD τ).loc main_v3_0) = (fun j : S2816x4096.Idx => outOf (Xm m c) (Ym m c) (YSm m c) (MGm m c) (j 0) (j 1))
      ∧ r.2.mem ((c.tc : Thread nD τ).loc main_v4)
        = shapeCast S3x8192x2816 (fun j : S24576x2816.Idx => codeOf (Xm m c) (j 0) (j 1) : FVec Ideal S24576x2816 .fp8e4m3) shapeCasts_S24576x2816_S3x8192x2816
      ∧ r.2.mem ((c.tc : Thread nD τ).loc main_v5)
        = shapeCast S2816 (fun j : S1x2816.Idx => scaleOf (Xm m c) (j 1) : FVec Ideal S1x2816 .f32) shapeCasts_S1x2816_S2816
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (out_final m c),
      ((h c).2 main_v4 (Pipeline.mem_restRefs_of main_v4 (by decide) (by decide))).trans (tail_v4 m c),
      ((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.ReferenceIdeal.Value

end
-- ==== Proof.Range.lean ====
/- The precondition, read over the extended reals: every column's scaled largest absolute value is zero or in range. -/
module

public import proofs.«01_k».proof.Proof.Gen.Pre_in_range
public import proofs.«01_k».proof.Proof.Spec
public import Idealize.ShloMosaic.Lib.Pipeline.ValueKit

@[expose] public section

set_option maxRecDepth 16384

noncomputable section

namespace Cert.Spec

open Cert.Pre_in_range Idealize.ShloMosaic

theorem bot_f32 : Ideal.ofBits .f32 4286578688#32 = ⊥ := by
  simp [Ideal.ofBits, Ideal.ieee]

/-- The two bounds as bit patterns. -/
theorem pw_lo : Exponent.pw 1 = Ideal.ofBits .f32 8388608#32 := by
  unfold Exponent.pw
  rw [show BitVec.ofNat 32 1 <<< 23 = 8388608#32 by decide]

theorem pw_hi : Exponent.pw 253 = Ideal.ofBits .f32 2122317824#32 := by
  unfold Exponent.pw
  rw [show BitVec.ofNat 32 253 <<< 23 = 2122317824#32 by decide]

/-- A disjunction of a condition and a conjunction, from the bits. -/
theorem bits_or {p q r : Prop} [Decidable p] [Decidable q] [Decidable r]
    (h : IntOp.ori (BitVec.ofBool (decide p)) (IntOp.andi (BitVec.ofBool (decide q)) (BitVec.ofBool (decide r))) = 1#1) :
    p ∨ q ∧ r := by
  by_cases hp : p
  · exact Or.inl hp
  · refine Or.inr ?_
    by_cases hq : q
    · by_cases hr : r
      · exact ⟨hq, hr⟩
      · simp [hp, hq, hr, IntOp.ori, IntOp.andi] at h
    · simp [hp, hq, IntOp.ori, IntOp.andi] at h

/-- The largest absolute value over the two leading axes is the column's largest over the rows of the matrix. -/
theorem reduce_eq (x : FVec Ideal S3x8192x2816 .bf16) (h : S3x8192x2816.ShapeCasts SX) (d : Fin 2816) :
    Host.reduce FloatOps.maximumf (Host.absf (extf .f32 x Pre_in_range.Gen.bitsLt_bf16_f32) : FVec Ideal S3x8192x2816 .f32)
      (constant S_ .f32 0xFF800000#32 : FVec Ideal S_ .f32) Pre_in_range.Gen.reducesTo_S3x8192x2816_S2816_d0_1 Pre_in_range.Gen.h_S_ (ix1 d)
      = amaxOf (shapeCast SX x h) d := by
  have hval : ∀ i : S3x8192x2816.Idx, (Pre_in_range.Gen.reducesTo_S3x8192x2816_S2816_d0_1.drop i 0 : Nat) = i 2 := fun i =>
    Shape.ReducesTo.drop_apply_val_of_eq _ i 0 2
  refine eq_of_forall_ge_iff fun (z : EReal) => ?_
  refine Iff.trans ?_ (amaxOf_le (shapeCast SX x h) d z).symm
  refine (iff_of_eq (congrArg (fun y : EReal => y ≤ z) (Host.reduce_eq_fold (max : EReal → EReal → EReal) _ _ _ _ _))).trans ?_
  rw [Finset.fold_max_le]
  have hb : (constant S_ .f32 0xFF800000#32 : FVec Ideal S_ .f32) (Shape.Idx.first Pre_in_range.Gen.h_S_) = (⊥ : EReal) := bot_f32
  rw [hb]
  simp only [bot_le, true_and, Finset.mem_filter, Finset.mem_univ]
  have e : ∀ r : Fin 24576, shapeCast SX x h (ix2 r d) = x (ix3 ⟨r.val / 8192, by omega⟩ ⟨r.val % 8192, by omega⟩ d) := fun r => by
    refine shapeCast_apply x h _ _ ?_
    rw [Shape.rowMajor_val_three, Shape.rowMajor_val_two]
    show (r.val / 8192 * 8192 + r.val % 8192) * 2816 + d.val = r.val * 2816 + d.val
    rw [Nat.div_add_mod' r.val 8192]
  constructor
  · intro hz r
    rw [e r]
    refine hz _ ?_
    funext b
    obtain rfl : b = 0 := Subsingleton.elim _ _
    exact Fin.ext (hval _)
  · intro hz i hi
    idx_vars i
    have h2 : i2 = d := Fin.ext ((hval (ix3 i0 i1 i2)).symm.trans (congrArg (fun j : S2816.Idx => (j 0).val) hi))
    have hr := hz ⟨i0.val * 8192 + i1.val, by omega⟩
    rw [e] at hr
    have e3 : (ix3 i0 i1 i2 : S3x8192x2816.Idx) = ix3 ⟨(i0.val * 8192 + i1.val) / 8192, by omega⟩ ⟨(i0.val * 8192 + i1.val) % 8192, by omega⟩ d := by
      rw [h2]
      exact congrArg₂ (fun a b => ix3 a b d) (Fin.ext (by dsimp only; omega)) (Fin.ext (by dsimp only; omega))
    rw [e3]
    exact hr

/-- The precondition's test of a vector of largest absolute values against a factor, zero and two bounds. -/
def bitsOf (R k z lo hi : FVec Ideal S2816 .f32) : IVec S2816 1 :=
  ori (cmpf .oeq (mulf R k) z) (andi (cmpf .oge (mulf R k) lo) (cmpf .olt (mulf R k) hi))

/-- The test at one column. -/
theorem bits_at (R k z lo hi : FVec Ideal S2816 .f32) (i : S2816.Idx) (h : bitsOf R k z lo hi i = 1#1) :
    (R i * k i : EReal) = z i ∨ (lo i : EReal) ≤ R i * k i ∧ (R i * k i : EReal) < hi i :=
  @bits_or _ _ _ _ _ _ h

/-- One number at every column. -/
def spread (b : BitVec 32) : FVec Ideal S2816 .f32 :=
  broadcastInDim S2816 ![] Pre_in_range.Gen.bcast_S_S2816 (constant S_ .f32 b : FVec Ideal S_ .f32)

theorem spread_at (b : BitVec 32) (i : S2816.Idx) : spread b i = Ideal.ofBits .f32 b := rfl

theorem zero_f32 : Ideal.ofBits .f32 0#32 = 0 := by
  simp [Ideal.ofBits, Ideal.ieee]

/-- The largest absolute values the precondition tests. -/
def largest (x : FVec Ideal S3x8192x2816 .bf16) : FVec Ideal S2816 .f32 :=
  Host.reduce FloatOps.maximumf (Host.absf (extf .f32 x Pre_in_range.Gen.bitsLt_bf16_f32) : FVec Ideal S3x8192x2816 .f32)
    (constant S_ .f32 0xFF800000#32 : FVec Ideal S_ .f32) Pre_in_range.Gen.reducesTo_S3x8192x2816_S2816_d0_1 Pre_in_range.Gen.h_S_

theorem fn_eq (x : FVec Ideal S3x8192x2816 .bf16) (a1 : FVec Ideal S3x8192x4096 .fp8e5m2) (a2 : FVec Ideal S4096 .f32)
    (a3 : FVec Ideal S2816x4096 .f32) :
    fn (F := Ideal) x a1 a2 a3 = bitsOf (largest x) (spread 0x3B124925#32) (spread 0x00000000#32) (spread 0x00800000#32) (spread 0x7E800000#32) := by
  unfold fn bitsOf largest spread
  rfl

theorem in_range (x : FVec Ideal S3x8192x2816 .bf16) (a1 : FVec Ideal S3x8192x4096 .fp8e5m2) (a2 : FVec Ideal S4096 .f32)
    (a3 : FVec Ideal S2816x4096 .f32) (h : S3x8192x2816.ShapeCasts SX)
    (hp : fn (F := Ideal) x a1 a2 a3 = fun _ => 1#1) : InRange (shapeCast SX x h) := by
  intro d
  rw [fn_eq] at hp
  have hd := bits_at _ _ _ _ _ _ (congrFun hp (ix1 d))
  rw [spread_at, spread_at, spread_at, spread_at, zero_f32, ← pw_lo, ← pw_hi] at hd
  have e : largest x (ix1 d) = amaxOf (shapeCast SX x h) d := reduce_eq x h d
  rw [e] at hd
  unfold ratio c448
  exact hd

end Cert.Spec

end
-- ==== Proof.Algebraic.lean ====
/- The kernel and the reference end with equal results: both are the closed forms of `Spec` at the same arguments. -/
module

public import proofs.«01_k».proof.Defs
public import proofs.«01_k».proof.Proof.KernelIdeal.Contents
public import proofs.«01_k».proof.Proof.KernelRun
public import proofs.«01_k».proof.Proof.ReferenceValue
public import proofs.«01_k».proof.Proof.Range

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

variable (m : (ℓ : Loc nD τ sig) → Buf (Elt Ideal) ℓ) (ρ : Dev nD → PrngReg)

/-- Every execution of the kernel ends with its three results at the stated values and its arguments unchanged. -/
theorem run (hX : ∀ c : Dev nD, InRange (Xm m c)) :
    θ_run defs (onTc (τ := τ) (main (F := Ideal))) ⟨m, fun _ => 0, ρ⟩ (fun r => ∀ c : Dev nD,
      r.2.mem ((c.tc : Thread nD τ).loc main_v6) = (fun j : S2816x4096.Idx => outOf (Xm m c) (Ym m c) (YSm m c) (MGm m c) (j 0) (j 1))
      ∧ r.2.mem ((c.tc : Thread nD τ).loc main_v7)
        = shapeCast S3x8192x2816 (fun j : S24576x2816.Idx => codeOf (Xm m c) (j 0) (j 1) : FVec Ideal S24576x2816 .fp8e4m3) shapeCasts_S24576x2816_S3x8192x2816
      ∧ r.2.mem ((c.tc : Thread nD τ).loc main_v8)
        = shapeCast S2816 (fun j : S1x2816.Idx => scaleOf (Xm m c) (j 1) : FVec Ideal S1x2816 .f32) shapeCasts_S1x2816_S2816
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v6 (by decide)).trans (v6_6 m ρ c (hX c)),
      (h c main_v7 (by decide)).trans (v7_6 m ρ c (hX c)),
      (h c main_v8 (by decide)).trans (v8_6 m ρ c (hX c)),
      (h c main_arg0 (by decide)).trans (W6_main_arg0 m ρ c),
      (h c main_arg1 (by decide)).trans (W6_main_arg1 m ρ c),
      (h c main_arg2 (by decide)).trans (W6_main_arg2 m ρ c),
      (h c main_arg3 (by decide)).trans (W6_main_arg3 m ρ c)⟩)
    (run_contents m ρ)

end Cert.KernelIdeal.Value

namespace Cert.Spec

/-- The reference's matrices are the kernel's, at equal arguments. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3)) :
    ReferenceIdeal.Value.Xm m' c = KernelIdeal.Value.Xm m c ∧ ReferenceIdeal.Value.Ym m' c = KernelIdeal.Value.Ym m c
      ∧ ReferenceIdeal.Value.YSm m' c = KernelIdeal.Value.YSm m c ∧ ReferenceIdeal.Value.MGm m' c = KernelIdeal.Value.MGm m c :=
  ⟨congrArg (fun v : FVec Ideal KernelIdeal.S3x8192x2816 .bf16 => shapeCast KernelIdeal.S24576x2816 v KernelIdeal.Gen.shapeCasts_S3x8192x2816_S24576x2816) h0,
   congrArg (fun v : FVec Ideal KernelIdeal.S3x8192x4096 .fp8e5m2 => shapeCast KernelIdeal.S24576x4096 v KernelIdeal.Gen.shapeCasts_S3x8192x4096_S24576x4096) h1,
   congrArg (fun v : FVec Ideal KernelIdeal.S4096 .f32 => shapeCast KernelIdeal.S1x4096 v KernelIdeal.Gen.shapeCasts_S4096_S1x4096) h2,
   h3⟩

/-- From memories that agree on the arguments, in range, the kernel and the reference end with equal results. -/
theorem algebraic : Cert.algebraic_KernelIdeal_ReferenceIdeal_pre_in_range := by
  intro m g m' g' hpre hargs
  have hX : ∀ c : Dev KernelIdeal.nD, InRange (KernelIdeal.Value.Xm m c) := fun c => in_range _ _ _ _ _ (hpre c)
  refine ⟨fun c => fun j : KernelIdeal.S2816x4096.Idx => outOf (KernelIdeal.Value.Xm m c) (KernelIdeal.Value.Ym m c) (KernelIdeal.Value.YSm m c) (KernelIdeal.Value.MGm m c) (j 0) (j 1),
    fun c => shapeCast KernelIdeal.S3x8192x2816 (fun j : KernelIdeal.S24576x2816.Idx => codeOf (KernelIdeal.Value.Xm m c) (j 0) (j 1) : FVec Ideal KernelIdeal.S24576x2816 .fp8e4m3) KernelIdeal.Gen.shapeCasts_S24576x2816_S3x8192x2816,
    fun c => shapeCast KernelIdeal.S2816 (fun j : KernelIdeal.S1x2816.Idx => scaleOf (KernelIdeal.Value.Xm m c) (j 1) : FVec Ideal KernelIdeal.S1x2816 .f32) KernelIdeal.Gen.shapeCasts_S1x2816_S2816,
    KernelIdeal.Value.run m g hX, ?_⟩
  refine (θ_run ReferenceIdeal.defs _ _).mono (fun r h c => ?_) (ReferenceIdeal.Value.run m' g')
  obtain ⟨e0, e1, e2, e3⟩ := args_eq m m' c (hargs c).1 (hargs c).2.1 (hargs c).2.2.1 (hargs c).2.2.2
  beta_reduce
  rw [← e0, ← e1, ← e2, ← e3]
  exact h c

end Cert.Spec

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  Cert.Spec.algebraic⟩

end Cert.Proof

end
